-- ==== Defs.lean ====
def Pre_Lru (m : (ℓ : Loc Cert.Lru.nD Cert.Lru.τ Cert.Lru.sig) → Buf (Elt Bits) ℓ) : Prop :=
  True

def Pre_LruIdeal (m : (ℓ : Loc Cert.LruIdeal.nD Cert.LruIdeal.τ Cert.LruIdeal.sig) → Buf (Elt Ideal) ℓ) : Prop :=
  True

def Pre_LruRefIdeal (m : (ℓ : Loc Cert.LruRefIdeal.nD Cert.LruRefIdeal.τ Cert.LruRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_Inner (m : (ℓ : Loc Cert.Inner.nD Cert.Inner.τ Cert.Inner.sig) → Buf (Elt Bits) ℓ) : Prop :=
  True

def Pre_InnerIdeal (m : (ℓ : Loc Cert.InnerIdeal.nD Cert.InnerIdeal.τ Cert.InnerIdeal.sig) → Buf (Elt Ideal) ℓ) : Prop :=
  True

def Pre_InnerRefIdeal (m : (ℓ : Loc Cert.InnerRefIdeal.nD Cert.InnerRefIdeal.τ Cert.InnerRefIdeal.sig) → Buf (Elt Ideal) ℓ) : Prop :=
  True

def quiescent_Lru [hLru : Cert.Lru.Facts] : Prop :=
  ∀ (m : (ℓ : Loc Cert.Lru.nD Cert.Lru.τ Cert.Lru.sig) → Buf (Elt Bits) ℓ) (g : Dev Cert.Lru.nD → PrngReg), Pre_Lru m →
    θ_run (Cert.Lru.defs (F := Bits)) (onTc (τ := Cert.Lru.τ) (Cert.Lru.main (F := Bits))) ⟨m, fun _ => 0, g⟩ (fun r => (∀ c : Dev Cert.Lru.nD,
      r.2.mem ((c.tc : Thread Cert.Lru.nD Cert.Lru.τ).loc Cert.Lru.main_arg0) = m ((c.tc : Thread Cert.Lru.nD Cert.Lru.τ).loc Cert.Lru.main_arg0)
      ∧ r.2.mem ((c.tc : Thread Cert.Lru.nD Cert.Lru.τ).loc Cert.Lru.main_arg1) = m ((c.tc : Thread Cert.Lru.nD Cert.Lru.τ).loc Cert.Lru.main_arg1)
      ∧ r.2.mem ((c.tc : Thread Cert.Lru.nD Cert.Lru.τ).loc Cert.Lru.main_arg2) = m ((c.tc : Thread Cert.Lru.nD Cert.Lru.τ).loc Cert.Lru.main_arg2)
      ∧ r.2.mem ((c.tc : Thread Cert.Lru.nD Cert.Lru.τ).loc Cert.Lru.main_arg3) = m ((c.tc : Thread Cert.Lru.nD Cert.Lru.τ).loc Cert.Lru.main_arg3)
      ∧ r.2.mem ((c.tc : Thread Cert.Lru.nD Cert.Lru.τ).loc Cert.Lru.main_arg4) = m ((c.tc : Thread Cert.Lru.nD Cert.Lru.τ).loc Cert.Lru.main_arg4)
      ∧ r.2.mem ((c.tc : Thread Cert.Lru.nD Cert.Lru.τ).loc Cert.Lru.main_arg5) = m ((c.tc : Thread Cert.Lru.nD Cert.Lru.τ).loc Cert.Lru.main_arg5)
      ∧ r.2.mem ((c.tc : Thread Cert.Lru.nD Cert.Lru.τ).loc Cert.Lru.main_arg6) = m ((c.tc : Thread Cert.Lru.nD Cert.Lru.τ).loc Cert.Lru.main_arg6)
      ∧ r.2.mem ((c.tc : Thread Cert.Lru.nD Cert.Lru.τ).loc Cert.Lru.main_arg7) = m ((c.tc : Thread Cert.Lru.nD Cert.Lru.τ).loc Cert.Lru.main_arg7))
      ∧ r.2.sem = fun _ => 0)

def quiescent_LruIdeal [hLruIdeal : Cert.LruIdeal.Facts] : Prop :=
  ∀ (m : (ℓ : Loc Cert.LruIdeal.nD Cert.LruIdeal.τ Cert.LruIdeal.sig) → Buf (Elt Ideal) ℓ) (g : Dev Cert.LruIdeal.nD → PrngReg), Pre_LruIdeal m →
    θ_run (Cert.LruIdeal.defs (F := Ideal)) (onTc (τ := Cert.LruIdeal.τ) (Cert.LruIdeal.main (F := Ideal))) ⟨m, fun _ => 0, g⟩ (fun r => (∀ c : Dev Cert.LruIdeal.nD,
      r.2.mem ((c.tc : Thread Cert.LruIdeal.nD Cert.LruIdeal.τ).loc Cert.LruIdeal.main_arg0) = m ((c.tc : Thread Cert.LruIdeal.nD Cert.LruIdeal.τ).loc Cert.LruIdeal.main_arg0)
      ∧ r.2.mem ((c.tc : Thread Cert.LruIdeal.nD Cert.LruIdeal.τ).loc Cert.LruIdeal.main_arg1) = m ((c.tc : Thread Cert.LruIdeal.nD Cert.LruIdeal.τ).loc Cert.LruIdeal.main_arg1)
      ∧ r.2.mem ((c.tc : Thread Cert.LruIdeal.nD Cert.LruIdeal.τ).loc Cert.LruIdeal.main_arg2) = m ((c.tc : Thread Cert.LruIdeal.nD Cert.LruIdeal.τ).loc Cert.LruIdeal.main_arg2)
      ∧ r.2.mem ((c.tc : Thread Cert.LruIdeal.nD Cert.LruIdeal.τ).loc Cert.LruIdeal.main_arg3) = m ((c.tc : Thread Cert.LruIdeal.nD Cert.LruIdeal.τ).loc Cert.LruIdeal.main_arg3)
      ∧ r.2.mem ((c.tc : Thread Cert.LruIdeal.nD Cert.LruIdeal.τ).loc Cert.LruIdeal.main_arg4) = m ((c.tc : Thread Cert.LruIdeal.nD Cert.LruIdeal.τ).loc Cert.LruIdeal.main_arg4)
      ∧ r.2.mem ((c.tc : Thread Cert.LruIdeal.nD Cert.LruIdeal.τ).loc Cert.LruIdeal.main_arg5) = m ((c.tc : Thread Cert.LruIdeal.nD Cert.LruIdeal.τ).loc Cert.LruIdeal.main_arg5)
      ∧ r.2.mem ((c.tc : Thread Cert.LruIdeal.nD Cert.LruIdeal.τ).loc Cert.LruIdeal.main_arg6) = m ((c.tc : Thread Cert.LruIdeal.nD Cert.LruIdeal.τ).loc Cert.LruIdeal.main_arg6)
      ∧ r.2.mem ((c.tc : Thread Cert.LruIdeal.nD Cert.LruIdeal.τ).loc Cert.LruIdeal.main_arg7) = m ((c.tc : Thread Cert.LruIdeal.nD Cert.LruIdeal.τ).loc Cert.LruIdeal.main_arg7))
      ∧ r.2.sem = fun _ => 0)

def quiescent_LruRefIdeal [hLruRefIdeal : Cert.LruRefIdeal.Facts] : Prop :=
  ∀ (m : (ℓ : Loc Cert.LruRefIdeal.nD Cert.LruRefIdeal.τ Cert.LruRefIdeal.sig) → Buf (Elt Ideal) ℓ) (g : Dev Cert.LruRefIdeal.nD → PrngReg), Pre_LruRefIdeal m →
    θ_run (Cert.LruRefIdeal.defs (F := Ideal)) (onTc (τ := Cert.LruRefIdeal.τ) (Cert.LruRefIdeal.main (F := Ideal))) ⟨m, fun _ => 0, g⟩ (fun r => (∀ c : Dev Cert.LruRefIdeal.nD,
      r.2.mem ((c.tc : Thread Cert.LruRefIdeal.nD Cert.LruRefIdeal.τ).loc Cert.LruRefIdeal.main_arg0) = m ((c.tc : Thread Cert.LruRefIdeal.nD Cert.LruRefIdeal.τ).loc Cert.LruRefIdeal.main_arg0)
      ∧ r.2.mem ((c.tc : Thread Cert.LruRefIdeal.nD Cert.LruRefIdeal.τ).loc Cert.LruRefIdeal.main_arg1) = m ((c.tc : Thread Cert.LruRefIdeal.nD Cert.LruRefIdeal.τ).loc Cert.LruRefIdeal.main_arg1)
      ∧ r.2.mem ((c.tc : Thread Cert.LruRefIdeal.nD Cert.LruRefIdeal.τ).loc Cert.LruRefIdeal.main_arg2) = m ((c.tc : Thread Cert.LruRefIdeal.nD Cert.LruRefIdeal.τ).loc Cert.LruRefIdeal.main_arg2)
      ∧ r.2.mem ((c.tc : Thread Cert.LruRefIdeal.nD Cert.LruRefIdeal.τ).loc Cert.LruRefIdeal.main_arg3) = m ((c.tc : Thread Cert.LruRefIdeal.nD Cert.LruRefIdeal.τ).loc Cert.LruRefIdeal.main_arg3)
      ∧ r.2.mem ((c.tc : Thread Cert.LruRefIdeal.nD Cert.LruRefIdeal.τ).loc Cert.LruRefIdeal.main_arg4) = m ((c.tc : Thread Cert.LruRefIdeal.nD Cert.LruRefIdeal.τ).loc Cert.LruRefIdeal.main_arg4)
      ∧ r.2.mem ((c.tc : Thread Cert.LruRefIdeal.nD Cert.LruRefIdeal.τ).loc Cert.LruRefIdeal.main_arg5) = m ((c.tc : Thread Cert.LruRefIdeal.nD Cert.LruRefIdeal.τ).loc Cert.LruRefIdeal.main_arg5)
      ∧ r.2.mem ((c.tc : Thread Cert.LruRefIdeal.nD Cert.LruRefIdeal.τ).loc Cert.LruRefIdeal.main_arg6) = m ((c.tc : Thread Cert.LruRefIdeal.nD Cert.LruRefIdeal.τ).loc Cert.LruRefIdeal.main_arg6)
      ∧ r.2.mem ((c.tc : Thread Cert.LruRefIdeal.nD Cert.LruRefIdeal.τ).loc Cert.LruRefIdeal.main_arg7) = m ((c.tc : Thread Cert.LruRefIdeal.nD Cert.LruRefIdeal.τ).loc Cert.LruRefIdeal.main_arg7))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12)
      ∧ r.2.mem ((c.tc : Thread Cert.Merge.nD Cert.Merge.τ).loc Cert.Merge.main_arg13) = m ((c.tc : Thread Cert.Merge.nD Cert.Merge.τ).loc Cert.Merge.main_arg13)
      ∧ r.2.mem ((c.tc : Thread Cert.Merge.nD Cert.Merge.τ).loc Cert.Merge.main_arg14) = m ((c.tc : Thread Cert.Merge.nD Cert.Merge.τ).loc Cert.Merge.main_arg14)
      ∧ r.2.mem ((c.tc : Thread Cert.Merge.nD Cert.Merge.τ).loc Cert.Merge.main_arg15) = m ((c.tc : Thread Cert.Merge.nD Cert.Merge.τ).loc Cert.Merge.main_arg15)
      ∧ r.2.mem ((c.tc : Thread Cert.Merge.nD Cert.Merge.τ).loc Cert.Merge.main_arg16) = m ((c.tc : Thread Cert.Merge.nD Cert.Merge.τ).loc Cert.Merge.main_arg16))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
      ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14)
      ∧ r.2.mem ((c.tc : Thread Cert.MergeIdeal.nD Cert.MergeIdeal.τ).loc Cert.MergeIdeal.main_arg15) = m ((c.tc : Thread Cert.MergeIdeal.nD Cert.MergeIdeal.τ).loc Cert.MergeIdeal.main_arg15)
      ∧ r.2.mem ((c.tc : Thread Cert.MergeIdeal.nD Cert.MergeIdeal.τ).loc Cert.MergeIdeal.main_arg16) = m ((c.tc : Thread Cert.MergeIdeal.nD Cert.MergeIdeal.τ).loc Cert.MergeIdeal.main_arg16))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11)
      ∧ r.2.mem ((c.tc : Thread Cert.MergeRefIdeal.nD Cert.MergeRefIdeal.τ).loc Cert.MergeRefIdeal.main_arg12) = m ((c.tc : Thread Cert.MergeRefIdeal.nD Cert.MergeRefIdeal.τ).loc Cert.MergeRefIdeal.main_arg12)
      ∧ r.2.mem ((c.tc : Thread Cert.MergeRefIdeal.nD Cert.MergeRefIdeal.τ).loc Cert.MergeRefIdeal.main_arg13) = m ((c.tc : Thread Cert.MergeRefIdeal.nD Cert.MergeRefIdeal.τ).loc Cert.MergeRefIdeal.main_arg13)
      ∧ r.2.mem ((c.tc : Thread Cert.MergeRefIdeal.nD Cert.MergeRefIdeal.τ).loc Cert.MergeRefIdeal.main_arg14) = m ((c.tc : Thread Cert.MergeRefIdeal.nD Cert.MergeRefIdeal.τ).loc Cert.MergeRefIdeal.main_arg14)
      ∧ r.2.mem ((c.tc : Thread Cert.MergeRefIdeal.nD Cert.MergeRefIdeal.τ).loc Cert.MergeRefIdeal.main_arg15) = m ((c.tc : Thread Cert.MergeRefIdeal.nD Cert.MergeRefIdeal.τ).loc Cert.MergeRefIdeal.main_arg15)
      ∧ r.2.mem ((c.tc : Thread Cert.MergeRefIdeal.nD Cert.MergeRefIdeal.τ).loc Cert.MergeRefIdeal.main_arg16) = m ((c.tc : Thread Cert.MergeRefIdeal.nD Cert.MergeRefIdeal.τ).loc Cert.MergeRefIdeal.main_arg16))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3))
      ∧ r.2.sem = fun _ => 0)

def quiescent_Inner [hInner : Cert.Inner.Facts] : Prop :=
  ∀ (m : (ℓ : Loc Cert.Inner.nD Cert.Inner.τ Cert.Inner.sig) → Buf (Elt Bits) ℓ) (g : Dev Cert.Inner.nD → PrngReg), Pre_Inner m →
    θ_run (Cert.Inner.defs (F := Bits)) (onTc (τ := Cert.Inner.τ) (Cert.Inner.main (F := Bits))) ⟨m, fun _ => 0, g⟩ (fun r => (∀ c : Dev Cert.Inner.nD,
      r.2.mem ((c.tc : Thread Cert.Inner.nD Cert.Inner.τ).loc Cert.Inner.main_arg0) = m ((c.tc : Thread Cert.Inner.nD Cert.Inner.τ).loc Cert.Inner.main_arg0)
      ∧ r.2.mem ((c.tc : Thread Cert.Inner.nD Cert.Inner.τ).loc Cert.Inner.main_arg1) = m ((c.tc : Thread Cert.Inner.nD Cert.Inner.τ).loc Cert.Inner.main_arg1)
      ∧ r.2.mem ((c.tc : Thread Cert.Inner.nD Cert.Inner.τ).loc Cert.Inner.main_arg2) = m ((c.tc : Thread Cert.Inner.nD Cert.Inner.τ).loc Cert.Inner.main_arg2)
      ∧ r.2.mem ((c.tc : Thread Cert.Inner.nD Cert.Inner.τ).loc Cert.Inner.main_arg3) = m ((c.tc : Thread Cert.Inner.nD Cert.Inner.τ).loc Cert.Inner.main_arg3)
      ∧ r.2.mem ((c.tc : Thread Cert.Inner.nD Cert.Inner.τ).loc Cert.Inner.main_arg4) = m ((c.tc : Thread Cert.Inner.nD Cert.Inner.τ).loc Cert.Inner.main_arg4)
      ∧ r.2.mem ((c.tc : Thread Cert.Inner.nD Cert.Inner.τ).loc Cert.Inner.main_arg5) = m ((c.tc : Thread Cert.Inner.nD Cert.Inner.τ).loc Cert.Inner.main_arg5)
      ∧ r.2.mem ((c.tc : Thread Cert.Inner.nD Cert.Inner.τ).loc Cert.Inner.main_arg6) = m ((c.tc : Thread Cert.Inner.nD Cert.Inner.τ).loc Cert.Inner.main_arg6)
      ∧ r.2.mem ((c.tc : Thread Cert.Inner.nD Cert.Inner.τ).loc Cert.Inner.main_arg7) = m ((c.tc : Thread Cert.Inner.nD Cert.Inner.τ).loc Cert.Inner.main_arg7)
      ∧ r.2.mem ((c.tc : Thread Cert.Inner.nD Cert.Inner.τ).loc Cert.Inner.main_arg8) = m ((c.tc : Thread Cert.Inner.nD Cert.Inner.τ).loc Cert.Inner.main_arg8)
      ∧ r.2.mem ((c.tc : Thread Cert.Inner.nD Cert.Inner.τ).loc Cert.Inner.main_arg9) = m ((c.tc : Thread Cert.Inner.nD Cert.Inner.τ).loc Cert.Inner.main_arg9)
      ∧ r.2.mem ((c.tc : Thread Cert.Inner.nD Cert.Inner.τ).loc Cert.Inner.main_arg10) = m ((c.tc : Thread Cert.Inner.nD Cert.Inner.τ).loc Cert.Inner.main_arg10)
      ∧ r.2.mem ((c.tc : Thread Cert.Inner.nD Cert.Inner.τ).loc Cert.Inner.main_arg11) = m ((c.tc : Thread Cert.Inner.nD Cert.Inner.τ).loc Cert.Inner.main_arg11)
      ∧ r.2.mem ((c.tc : Thread Cert.Inner.nD Cert.Inner.τ).loc Cert.Inner.main_arg12) = m ((c.tc : Thread Cert.Inner.nD Cert.Inner.τ).loc Cert.Inner.main_arg12)
      ∧ r.2.mem ((c.tc : Thread Cert.Inner.nD Cert.Inner.τ).loc Cert.Inner.main_arg13) = m ((c.tc : Thread Cert.Inner.nD Cert.Inner.τ).loc Cert.Inner.main_arg13)
      ∧ r.2.mem ((c.tc : Thread Cert.Inner.nD Cert.Inner.τ).loc Cert.Inner.main_arg14) = m ((c.tc : Thread Cert.Inner.nD Cert.Inner.τ).loc Cert.Inner.main_arg14)
      ∧ r.2.mem ((c.tc : Thread Cert.Inner.nD Cert.Inner.τ).loc Cert.Inner.main_arg15) = m ((c.tc : Thread Cert.Inner.nD Cert.Inner.τ).loc Cert.Inner.main_arg15)
      ∧ r.2.mem ((c.tc : Thread Cert.Inner.nD Cert.Inner.τ).loc Cert.Inner.main_arg16) = m ((c.tc : Thread Cert.Inner.nD Cert.Inner.τ).loc Cert.Inner.main_arg16))
      ∧ r.2.sem = fun _ => 0)

def quiescent_InnerIdeal [hInnerIdeal : Cert.InnerIdeal.Facts] : Prop :=
  ∀ (m : (ℓ : Loc Cert.InnerIdeal.nD Cert.InnerIdeal.τ Cert.InnerIdeal.sig) → Buf (Elt Ideal) ℓ) (g : Dev Cert.InnerIdeal.nD → PrngReg), Pre_InnerIdeal m →
    θ_run (Cert.InnerIdeal.defs (F := Ideal)) (onTc (τ := Cert.InnerIdeal.τ) (Cert.InnerIdeal.main (F := Ideal))) ⟨m, fun _ => 0, g⟩ (fun r => (∀ c : Dev Cert.InnerIdeal.nD,
      r.2.mem ((c.tc : Thread Cert.InnerIdeal.nD Cert.InnerIdeal.τ).loc Cert.InnerIdeal.main_arg0) = m ((c.tc : Thread Cert.InnerIdeal.nD Cert.InnerIdeal.τ).loc Cert.InnerIdeal.main_arg0)
      ∧ r.2.mem ((c.tc : Thread Cert.InnerIdeal.nD Cert.InnerIdeal.τ).loc Cert.InnerIdeal.main_arg1) = m ((c.tc : Thread Cert.InnerIdeal.nD Cert.InnerIdeal.τ).loc Cert.InnerIdeal.main_arg1)
      ∧ r.2.mem ((c.tc : Thread Cert.InnerIdeal.nD Cert.InnerIdeal.τ).loc Cert.InnerIdeal.main_arg2) = m ((c.tc : Thread Cert.InnerIdeal.nD Cert.InnerIdeal.τ).loc Cert.InnerIdeal.main_arg2)
      ∧ r.2.mem ((c.tc : Thread Cert.InnerIdeal.nD Cert.InnerIdeal.τ).loc Cert.InnerIdeal.main_arg3) = m ((c.tc : Thread Cert.InnerIdeal.nD Cert.InnerIdeal.τ).loc Cert.InnerIdeal.main_arg3)
      ∧ r.2.mem ((c.tc : Thread Cert.InnerIdeal.nD Cert.InnerIdeal.τ).loc Cert.InnerIdeal.main_arg4) = m ((c.tc : Thread Cert.InnerIdeal.nD Cert.InnerIdeal.τ).loc Cert.InnerIdeal.main_arg4)
      ∧ r.2.mem ((c.tc : Thread Cert.InnerIdeal.nD Cert.InnerIdeal.τ).loc Cert.InnerIdeal.main_arg5) = m ((c.tc : Thread Cert.InnerIdeal.nD Cert.InnerIdeal.τ).loc Cert.InnerIdeal.main_arg5)
      ∧ r.2.mem ((c.tc : Thread Cert.InnerIdeal.nD Cert.InnerIdeal.τ).loc Cert.InnerIdeal.main_arg6) = m ((c.tc : Thread Cert.InnerIdeal.nD Cert.InnerIdeal.τ).loc Cert.InnerIdeal.main_arg6)
      ∧ r.2.mem ((c.tc : Thread Cert.InnerIdeal.nD Cert.InnerIdeal.τ).loc Cert.InnerIdeal.main_arg7) = m ((c.tc : Thread Cert.InnerIdeal.nD Cert.InnerIdeal.τ).loc Cert.InnerIdeal.main_arg7)
      ∧ r.2.mem ((c.tc : Thread Cert.InnerIdeal.nD Cert.InnerIdeal.τ).loc Cert.InnerIdeal.main_arg8) = m ((c.tc : Thread Cert.InnerIdeal.nD Cert.InnerIdeal.τ).loc Cert.InnerIdeal.main_arg8)
      ∧ r.2.mem ((c.tc : Thread Cert.InnerIdeal.nD Cert.InnerIdeal.τ).loc Cert.InnerIdeal.main_arg9) = m ((c.tc : Thread Cert.InnerIdeal.nD Cert.InnerIdeal.τ).loc Cert.InnerIdeal.main_arg9)
      ∧ r.2.mem ((c.tc : Thread Cert.InnerIdeal.nD Cert.InnerIdeal.τ).loc Cert.InnerIdeal.main_arg10) = m ((c.tc : Thread Cert.InnerIdeal.nD Cert.InnerIdeal.τ).loc Cert.InnerIdeal.main_arg10)
      ∧ r.2.mem ((c.tc : Thread Cert.InnerIdeal.nD Cert.InnerIdeal.τ).loc Cert.InnerIdeal.main_arg11) = m ((c.tc : Thread Cert.InnerIdeal.nD Cert.InnerIdeal.τ).loc Cert.InnerIdeal.main_arg11)
      ∧ r.2.mem ((c.tc : Thread Cert.InnerIdeal.nD Cert.InnerIdeal.τ).loc Cert.InnerIdeal.main_arg12) = m ((c.tc : Thread Cert.InnerIdeal.nD Cert.InnerIdeal.τ).loc Cert.InnerIdeal.main_arg12)
      ∧ r.2.mem ((c.tc : Thread Cert.InnerIdeal.nD Cert.InnerIdeal.τ).loc Cert.InnerIdeal.main_arg13) = m ((c.tc : Thread Cert.InnerIdeal.nD Cert.InnerIdeal.τ).loc Cert.InnerIdeal.main_arg13)
      ∧ r.2.mem ((c.tc : Thread Cert.InnerIdeal.nD Cert.InnerIdeal.τ).loc Cert.InnerIdeal.main_arg14) = m ((c.tc : Thread Cert.InnerIdeal.nD Cert.InnerIdeal.τ).loc Cert.InnerIdeal.main_arg14)
      ∧ r.2.mem ((c.tc : Thread Cert.InnerIdeal.nD Cert.InnerIdeal.τ).loc Cert.InnerIdeal.main_arg15) = m ((c.tc : Thread Cert.InnerIdeal.nD Cert.InnerIdeal.τ).loc Cert.InnerIdeal.main_arg15)
      ∧ r.2.mem ((c.tc : Thread Cert.InnerIdeal.nD Cert.InnerIdeal.τ).loc Cert.InnerIdeal.main_arg16) = m ((c.tc : Thread Cert.InnerIdeal.nD Cert.InnerIdeal.τ).loc Cert.InnerIdeal.main_arg16))
      ∧ r.2.sem = fun _ => 0)

def quiescent_InnerRefIdeal [hInnerRefIdeal : Cert.InnerRefIdeal.Facts] : Prop :=
  ∀ (m : (ℓ : Loc Cert.InnerRefIdeal.nD Cert.InnerRefIdeal.τ Cert.InnerRefIdeal.sig) → Buf (Elt Ideal) ℓ) (g : Dev Cert.InnerRefIdeal.nD → PrngReg), Pre_InnerRefIdeal m →
    θ_run (Cert.InnerRefIdeal.defs (F := Ideal)) (onTc (τ := Cert.InnerRefIdeal.τ) (Cert.InnerRefIdeal.main (F := Ideal))) ⟨m, fun _ => 0, g⟩ (fun r => (∀ c : Dev Cert.InnerRefIdeal.nD,
      r.2.mem ((c.tc : Thread Cert.InnerRefIdeal.nD Cert.InnerRefIdeal.τ).loc Cert.InnerRefIdeal.main_arg0) = m ((c.tc : Thread Cert.InnerRefIdeal.nD Cert.InnerRefIdeal.τ).loc Cert.InnerRefIdeal.main_arg0)
      ∧ r.2.mem ((c.tc : Thread Cert.InnerRefIdeal.nD Cert.InnerRefIdeal.τ).loc Cert.InnerRefIdeal.main_arg1) = m ((c.tc : Thread Cert.InnerRefIdeal.nD Cert.InnerRefIdeal.τ).loc Cert.InnerRefIdeal.main_arg1)
      ∧ r.2.mem ((c.tc : Thread Cert.InnerRefIdeal.nD Cert.InnerRefIdeal.τ).loc Cert.InnerRefIdeal.main_arg2) = m ((c.tc : Thread Cert.InnerRefIdeal.nD Cert.InnerRefIdeal.τ).loc Cert.InnerRefIdeal.main_arg2)
      ∧ r.2.mem ((c.tc : Thread Cert.InnerRefIdeal.nD Cert.InnerRefIdeal.τ).loc Cert.InnerRefIdeal.main_arg3) = m ((c.tc : Thread Cert.InnerRefIdeal.nD Cert.InnerRefIdeal.τ).loc Cert.InnerRefIdeal.main_arg3)
      ∧ r.2.mem ((c.tc : Thread Cert.InnerRefIdeal.nD Cert.InnerRefIdeal.τ).loc Cert.InnerRefIdeal.main_arg4) = m ((c.tc : Thread Cert.InnerRefIdeal.nD Cert.InnerRefIdeal.τ).loc Cert.InnerRefIdeal.main_arg4)
      ∧ r.2.mem ((c.tc : Thread Cert.InnerRefIdeal.nD Cert.InnerRefIdeal.τ).loc Cert.InnerRefIdeal.main_arg5) = m ((c.tc : Thread Cert.InnerRefIdeal.nD Cert.InnerRefIdeal.τ).loc Cert.InnerRefIdeal.main_arg5)
      ∧ r.2.mem ((c.tc : Thread Cert.InnerRefIdeal.nD Cert.InnerRefIdeal.τ).loc Cert.InnerRefIdeal.main_arg6) = m ((c.tc : Thread Cert.InnerRefIdeal.nD Cert.InnerRefIdeal.τ).loc Cert.InnerRefIdeal.main_arg6)
      ∧ r.2.mem ((c.tc : Thread Cert.InnerRefIdeal.nD Cert.InnerRefIdeal.τ).loc Cert.InnerRefIdeal.main_arg7) = m ((c.tc : Thread Cert.InnerRefIdeal.nD Cert.InnerRefIdeal.τ).loc Cert.InnerRefIdeal.main_arg7)
      ∧ r.2.mem ((c.tc : Thread Cert.InnerRefIdeal.nD Cert.InnerRefIdeal.τ).loc Cert.InnerRefIdeal.main_arg8) = m ((c.tc : Thread Cert.InnerRefIdeal.nD Cert.InnerRefIdeal.τ).loc Cert.InnerRefIdeal.main_arg8)
      ∧ r.2.mem ((c.tc : Thread Cert.InnerRefIdeal.nD Cert.InnerRefIdeal.τ).loc Cert.InnerRefIdeal.main_arg9) = m ((c.tc : Thread Cert.InnerRefIdeal.nD Cert.InnerRefIdeal.τ).loc Cert.InnerRefIdeal.main_arg9)
      ∧ r.2.mem ((c.tc : Thread Cert.InnerRefIdeal.nD Cert.InnerRefIdeal.τ).loc Cert.InnerRefIdeal.main_arg10) = m ((c.tc : Thread Cert.InnerRefIdeal.nD Cert.InnerRefIdeal.τ).loc Cert.InnerRefIdeal.main_arg10)
      ∧ r.2.mem ((c.tc : Thread Cert.InnerRefIdeal.nD Cert.InnerRefIdeal.τ).loc Cert.InnerRefIdeal.main_arg11) = m ((c.tc : Thread Cert.InnerRefIdeal.nD Cert.InnerRefIdeal.τ).loc Cert.InnerRefIdeal.main_arg11)
      ∧ r.2.mem ((c.tc : Thread Cert.InnerRefIdeal.nD Cert.InnerRefIdeal.τ).loc Cert.InnerRefIdeal.main_arg12) = m ((c.tc : Thread Cert.InnerRefIdeal.nD Cert.InnerRefIdeal.τ).loc Cert.InnerRefIdeal.main_arg12)
      ∧ r.2.mem ((c.tc : Thread Cert.InnerRefIdeal.nD Cert.InnerRefIdeal.τ).loc Cert.InnerRefIdeal.main_arg13) = m ((c.tc : Thread Cert.InnerRefIdeal.nD Cert.InnerRefIdeal.τ).loc Cert.InnerRefIdeal.main_arg13)
      ∧ r.2.mem ((c.tc : Thread Cert.InnerRefIdeal.nD Cert.InnerRefIdeal.τ).loc Cert.InnerRefIdeal.main_arg14) = m ((c.tc : Thread Cert.InnerRefIdeal.nD Cert.InnerRefIdeal.τ).loc Cert.InnerRefIdeal.main_arg14)
      ∧ r.2.mem ((c.tc : Thread Cert.InnerRefIdeal.nD Cert.InnerRefIdeal.τ).loc Cert.InnerRefIdeal.main_arg15) = m ((c.tc : Thread Cert.InnerRefIdeal.nD Cert.InnerRefIdeal.τ).loc Cert.InnerRefIdeal.main_arg15)
      ∧ r.2.mem ((c.tc : Thread Cert.InnerRefIdeal.nD Cert.InnerRefIdeal.τ).loc Cert.InnerRefIdeal.main_arg16) = m ((c.tc : Thread Cert.InnerRefIdeal.nD Cert.InnerRefIdeal.τ).loc Cert.InnerRefIdeal.main_arg16))
      ∧ r.2.sem = fun _ => 0)

def preserves_Lru_LruIdeal : Prop :=
  True

def algebraic_LruIdeal_LruRefIdeal [hLruIdeal : Cert.LruIdeal.Facts] [hLruRefIdeal : Cert.LruRefIdeal.Facts] : Prop :=
  ∀ (m : (ℓ : Loc Cert.LruIdeal.nD Cert.LruIdeal.τ Cert.LruIdeal.sig) → Buf (Elt Ideal) ℓ) (g : Dev Cert.LruIdeal.nD → PrngReg)
    (m' : (ℓ : Loc Cert.LruRefIdeal.nD Cert.LruRefIdeal.τ Cert.LruRefIdeal.sig) → Buf (Elt Ideal) ℓ) (g' : Dev Cert.LruRefIdeal.nD → PrngReg), Pre_LruIdeal m →
    (∀ c : Dev Cert.LruIdeal.nD,
      m' ((c.tc : Thread Cert.LruRefIdeal.nD Cert.LruRefIdeal.τ).loc Cert.LruRefIdeal.main_arg0) = m ((c.tc : Thread Cert.LruIdeal.nD Cert.LruIdeal.τ).loc Cert.LruIdeal.main_arg0)
      ∧ m' ((c.tc : Thread Cert.LruRefIdeal.nD Cert.LruRefIdeal.τ).loc Cert.LruRefIdeal.main_arg1) = m ((c.tc : Thread Cert.LruIdeal.nD Cert.LruIdeal.τ).loc Cert.LruIdeal.main_arg1)
      ∧ m' ((c.tc : Thread Cert.LruRefIdeal.nD Cert.LruRefIdeal.τ).loc Cert.LruRefIdeal.main_arg2) = m ((c.tc : Thread Cert.LruIdeal.nD Cert.LruIdeal.τ).loc Cert.LruIdeal.main_arg2)
      ∧ m' ((c.tc : Thread Cert.LruRefIdeal.nD Cert.LruRefIdeal.τ).loc Cert.LruRefIdeal.main_arg3) = m ((c.tc : Thread Cert.LruIdeal.nD Cert.LruIdeal.τ).loc Cert.LruIdeal.main_arg3)
      ∧ m' ((c.tc : Thread Cert.LruRefIdeal.nD Cert.LruRefIdeal.τ).loc Cert.LruRefIdeal.main_arg4) = m ((c.tc : Thread Cert.LruIdeal.nD Cert.LruIdeal.τ).loc Cert.LruIdeal.main_arg4)
      ∧ m' ((c.tc : Thread Cert.LruRefIdeal.nD Cert.LruRefIdeal.τ).loc Cert.LruRefIdeal.main_arg5) = m ((c.tc : Thread Cert.LruIdeal.nD Cert.LruIdeal.τ).loc Cert.LruIdeal.main_arg5)
      ∧ m' ((c.tc : Thread Cert.LruRefIdeal.nD Cert.LruRefIdeal.τ).loc Cert.LruRefIdeal.main_arg6) = m ((c.tc : Thread Cert.LruIdeal.nD Cert.LruIdeal.τ).loc Cert.LruIdeal.main_arg6)
      ∧ m' ((c.tc : Thread Cert.LruRefIdeal.nD Cert.LruRefIdeal.τ).loc Cert.LruRefIdeal.main_arg7) = m ((c.tc : Thread Cert.LruIdeal.nD Cert.LruIdeal.τ).loc Cert.LruIdeal.main_arg7)) →
    ∃ (v0 : (c : Dev Cert.LruIdeal.nD) → Buf (Elt Ideal) ((c.tc : Thread Cert.LruIdeal.nD Cert.LruIdeal.τ).loc Cert.LruIdeal.main_v30)),
      θ_run (Cert.LruIdeal.defs (F := Ideal)) (onTc (τ := Cert.LruIdeal.τ) (Cert.LruIdeal.main (F := Ideal))) ⟨m, fun _ => 0, g⟩ (fun r => ∀ c : Dev Cert.LruIdeal.nD,
          r.2.mem ((c.tc : Thread Cert.LruIdeal.nD Cert.LruIdeal.τ).loc Cert.LruIdeal.main_v30) = v0 c
          ∧ r.2.mem ((c.tc : Thread Cert.LruIdeal.nD Cert.LruIdeal.τ).loc Cert.LruIdeal.main_arg0) = m ((c.tc : Thread Cert.LruIdeal.nD Cert.LruIdeal.τ).loc Cert.LruIdeal.main_arg0)
          ∧ r.2.mem ((c.tc : Thread Cert.LruIdeal.nD Cert.LruIdeal.τ).loc Cert.LruIdeal.main_arg1) = m ((c.tc : Thread Cert.LruIdeal.nD Cert.LruIdeal.τ).loc Cert.LruIdeal.main_arg1)
          ∧ r.2.mem ((c.tc : Thread Cert.LruIdeal.nD Cert.LruIdeal.τ).loc Cert.LruIdeal.main_arg2) = m ((c.tc : Thread Cert.LruIdeal.nD Cert.LruIdeal.τ).loc Cert.LruIdeal.main_arg2)
          ∧ r.2.mem ((c.tc : Thread Cert.LruIdeal.nD Cert.LruIdeal.τ).loc Cert.LruIdeal.main_arg3) = m ((c.tc : Thread Cert.LruIdeal.nD Cert.LruIdeal.τ).loc Cert.LruIdeal.main_arg3)
          ∧ r.2.mem ((c.tc : Thread Cert.LruIdeal.nD Cert.LruIdeal.τ).loc Cert.LruIdeal.main_arg4) = m ((c.tc : Thread Cert.LruIdeal.nD Cert.LruIdeal.τ).loc Cert.LruIdeal.main_arg4)
          ∧ r.2.mem ((c.tc : Thread Cert.LruIdeal.nD Cert.LruIdeal.τ).loc Cert.LruIdeal.main_arg5) = m ((c.tc : Thread Cert.LruIdeal.nD Cert.LruIdeal.τ).loc Cert.LruIdeal.main_arg5)
          ∧ r.2.mem ((c.tc : Thread Cert.LruIdeal.nD Cert.LruIdeal.τ).loc Cert.LruIdeal.main_arg6) = m ((c.tc : Thread Cert.LruIdeal.nD Cert.LruIdeal.τ).loc Cert.LruIdeal.main_arg6)
          ∧ r.2.mem ((c.tc : Thread Cert.LruIdeal.nD Cert.LruIdeal.τ).loc Cert.LruIdeal.main_arg7) = m ((c.tc : Thread Cert.LruIdeal.nD Cert.LruIdeal.τ).loc Cert.LruIdeal.main_arg7))
      ∧ θ_run (Cert.LruRefIdeal.defs (F := Ideal)) (onTc (τ := Cert.LruRefIdeal.τ) (Cert.LruRefIdeal.main (F := Ideal))) ⟨m', fun _ => 0, g'⟩ (fun r => ∀ c : Dev Cert.LruRefIdeal.nD,
          r.2.mem ((c.tc : Thread Cert.LruRefIdeal.nD Cert.LruRefIdeal.τ).loc Cert.LruRefIdeal.main_v95) = v0 c
          ∧ r.2.mem ((c.tc : Thread Cert.LruRefIdeal.nD Cert.LruRefIdeal.τ).loc Cert.LruRefIdeal.main_arg0) = m' ((c.tc : Thread Cert.LruRefIdeal.nD Cert.LruRefIdeal.τ).loc Cert.LruRefIdeal.main_arg0)
          ∧ r.2.mem ((c.tc : Thread Cert.LruRefIdeal.nD Cert.LruRefIdeal.τ).loc Cert.LruRefIdeal.main_arg1) = m' ((c.tc : Thread Cert.LruRefIdeal.nD Cert.LruRefIdeal.τ).loc Cert.LruRefIdeal.main_arg1)
          ∧ r.2.mem ((c.tc : Thread Cert.LruRefIdeal.nD Cert.LruRefIdeal.τ).loc Cert.LruRefIdeal.main_arg2) = m' ((c.tc : Thread Cert.LruRefIdeal.nD Cert.LruRefIdeal.τ).loc Cert.LruRefIdeal.main_arg2)
          ∧ r.2.mem ((c.tc : Thread Cert.LruRefIdeal.nD Cert.LruRefIdeal.τ).loc Cert.LruRefIdeal.main_arg3) = m' ((c.tc : Thread Cert.LruRefIdeal.nD Cert.LruRefIdeal.τ).loc Cert.LruRefIdeal.main_arg3)
          ∧ r.2.mem ((c.tc : Thread Cert.LruRefIdeal.nD Cert.LruRefIdeal.τ).loc Cert.LruRefIdeal.main_arg4) = m' ((c.tc : Thread Cert.LruRefIdeal.nD Cert.LruRefIdeal.τ).loc Cert.LruRefIdeal.main_arg4)
          ∧ r.2.mem ((c.tc : Thread Cert.LruRefIdeal.nD Cert.LruRefIdeal.τ).loc Cert.LruRefIdeal.main_arg5) = m' ((c.tc : Thread Cert.LruRefIdeal.nD Cert.LruRefIdeal.τ).loc Cert.LruRefIdeal.main_arg5)
          ∧ r.2.mem ((c.tc : Thread Cert.LruRefIdeal.nD Cert.LruRefIdeal.τ).loc Cert.LruRefIdeal.main_arg6) = m' ((c.tc : Thread Cert.LruRefIdeal.nD Cert.LruRefIdeal.τ).loc Cert.LruRefIdeal.main_arg6)
          ∧ r.2.mem ((c.tc : Thread Cert.LruRefIdeal.nD Cert.LruRefIdeal.τ).loc Cert.LruRefIdeal.main_arg7) = m' ((c.tc : Thread Cert.LruRefIdeal.nD Cert.LruRefIdeal.τ).loc Cert.LruRefIdeal.main_arg7))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)
      ∧ m' ((c.tc : Thread Cert.MergeRefIdeal.nD Cert.MergeRefIdeal.τ).loc Cert.MergeRefIdeal.main_arg12) = m ((c.tc : Thread Cert.MergeIdeal.nD Cert.MergeIdeal.τ).loc Cert.MergeIdeal.main_arg12)
      ∧ m' ((c.tc : Thread Cert.MergeRefIdeal.nD Cert.MergeRefIdeal.τ).loc Cert.MergeRefIdeal.main_arg13) = m ((c.tc : Thread Cert.MergeIdeal.nD Cert.MergeIdeal.τ).loc Cert.MergeIdeal.main_arg13)
      ∧ m' ((c.tc : Thread Cert.MergeRefIdeal.nD Cert.MergeRefIdeal.τ).loc Cert.MergeRefIdeal.main_arg14) = m ((c.tc : Thread Cert.MergeIdeal.nD Cert.MergeIdeal.τ).loc Cert.MergeIdeal.main_arg14)
      ∧ m' ((c.tc : Thread Cert.MergeRefIdeal.nD Cert.MergeRefIdeal.τ).loc Cert.MergeRefIdeal.main_arg15) = m ((c.tc : Thread Cert.MergeIdeal.nD Cert.MergeIdeal.τ).loc Cert.MergeIdeal.main_arg15)
      ∧ m' ((c.tc : Thread Cert.MergeRefIdeal.nD Cert.MergeRefIdeal.τ).loc Cert.MergeRefIdeal.main_arg16) = m ((c.tc : Thread Cert.MergeIdeal.nD Cert.MergeIdeal.τ).loc Cert.MergeIdeal.main_arg16)) →
    ∃ (v0 : (c : Dev Cert.MergeIdeal.nD) → Buf (Elt Ideal) ((c.tc : Thread Cert.MergeIdeal.nD Cert.MergeIdeal.τ).loc Cert.MergeIdeal.main_v14)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v14) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
          ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
          ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14)
          ∧ r.2.mem ((c.tc : Thread Cert.MergeIdeal.nD Cert.MergeIdeal.τ).loc Cert.MergeIdeal.main_arg15) = m ((c.tc : Thread Cert.MergeIdeal.nD Cert.MergeIdeal.τ).loc Cert.MergeIdeal.main_arg15)
          ∧ r.2.mem ((c.tc : Thread Cert.MergeIdeal.nD Cert.MergeIdeal.τ).loc Cert.MergeIdeal.main_arg16) = m ((c.tc : Thread Cert.MergeIdeal.nD Cert.MergeIdeal.τ).loc Cert.MergeIdeal.main_arg16))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v76) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11)
          ∧ r.2.mem ((c.tc : Thread Cert.MergeRefIdeal.nD Cert.MergeRefIdeal.τ).loc Cert.MergeRefIdeal.main_arg12) = m' ((c.tc : Thread Cert.MergeRefIdeal.nD Cert.MergeRefIdeal.τ).loc Cert.MergeRefIdeal.main_arg12)
          ∧ r.2.mem ((c.tc : Thread Cert.MergeRefIdeal.nD Cert.MergeRefIdeal.τ).loc Cert.MergeRefIdeal.main_arg13) = m' ((c.tc : Thread Cert.MergeRefIdeal.nD Cert.MergeRefIdeal.τ).loc Cert.MergeRefIdeal.main_arg13)
          ∧ r.2.mem ((c.tc : Thread Cert.MergeRefIdeal.nD Cert.MergeRefIdeal.τ).loc Cert.MergeRefIdeal.main_arg14) = m' ((c.tc : Thread Cert.MergeRefIdeal.nD Cert.MergeRefIdeal.τ).loc Cert.MergeRefIdeal.main_arg14)
          ∧ r.2.mem ((c.tc : Thread Cert.MergeRefIdeal.nD Cert.MergeRefIdeal.τ).loc Cert.MergeRefIdeal.main_arg15) = m' ((c.tc : Thread Cert.MergeRefIdeal.nD Cert.MergeRefIdeal.τ).loc Cert.MergeRefIdeal.main_arg15)
          ∧ r.2.mem ((c.tc : Thread Cert.MergeRefIdeal.nD Cert.MergeRefIdeal.τ).loc Cert.MergeRefIdeal.main_arg16) = m' ((c.tc : Thread Cert.MergeRefIdeal.nD Cert.MergeRefIdeal.τ).loc Cert.MergeRefIdeal.main_arg16))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)) →
    ∃ (v0 : (c : Dev Cert.InprojIdeal.nD) → Buf (Elt Ideal) ((c.tc : Thread Cert.InprojIdeal.nD Cert.InprojIdeal.τ).loc Cert.InprojIdeal.main_v2_0)) (v1 : (c : Dev Cert.InprojIdeal.nD) → Buf (Elt Ideal) ((c.tc : Thread Cert.InprojIdeal.nD Cert.InprojIdeal.τ).loc Cert.InprojIdeal.main_v2_1)) (v2 : (c : Dev Cert.InprojIdeal.nD) → Buf (Elt Ideal) ((c.tc : Thread Cert.InprojIdeal.nD Cert.InprojIdeal.τ).loc Cert.InprojIdeal.main_v2_2)) (v3 : (c : Dev Cert.InprojIdeal.nD) → Buf (Elt Ideal) ((c.tc : Thread Cert.InprojIdeal.nD Cert.InprojIdeal.τ).loc Cert.InprojIdeal.main_v2_3)) (v4 : (c : Dev Cert.InprojIdeal.nD) → Buf (Elt Ideal) ((c.tc : Thread Cert.InprojIdeal.nD Cert.InprojIdeal.τ).loc Cert.InprojIdeal.main_v2_4)) (v5 : (c : Dev Cert.InprojIdeal.nD) → Buf (Elt Ideal) ((c.tc : Thread Cert.InprojIdeal.nD Cert.InprojIdeal.τ).loc Cert.InprojIdeal.main_v2_5)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v2_0) = v0 c
          ∧ r.2.mem ((c.tc : Thread Cert.InprojIdeal.nD Cert.InprojIdeal.τ).loc Cert.InprojIdeal.main_v2_1) = v1 c
          ∧ r.2.mem ((c.tc : Thread Cert.InprojIdeal.nD Cert.InprojIdeal.τ).loc Cert.InprojIdeal.main_v2_2) = v2 c
          ∧ r.2.mem ((c.tc : Thread Cert.InprojIdeal.nD Cert.InprojIdeal.τ).loc Cert.InprojIdeal.main_v2_3) = v3 c
          ∧ r.2.mem ((c.tc : Thread Cert.InprojIdeal.nD Cert.InprojIdeal.τ).loc Cert.InprojIdeal.main_v2_4) = v4 c
          ∧ r.2.mem ((c.tc : Thread Cert.InprojIdeal.nD Cert.InprojIdeal.τ).loc Cert.InprojIdeal.main_v2_5) = v5 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v15) = v0 c
          ∧ r.2.mem ((c.tc : Thread Cert.InprojRefIdeal.nD Cert.InprojRefIdeal.τ).loc Cert.InprojRefIdeal.main_v35) = v1 c
          ∧ r.2.mem ((c.tc : Thread Cert.InprojRefIdeal.nD Cert.InprojRefIdeal.τ).loc Cert.InprojRefIdeal.main_v38) = v2 c
          ∧ r.2.mem ((c.tc : Thread Cert.InprojRefIdeal.nD Cert.InprojRefIdeal.τ).loc Cert.InprojRefIdeal.main_v18) = v3 c
          ∧ r.2.mem ((c.tc : Thread Cert.InprojRefIdeal.nD Cert.InprojRefIdeal.τ).loc Cert.InprojRefIdeal.main_v19) = v4 c
          ∧ r.2.mem ((c.tc : Thread Cert.InprojRefIdeal.nD Cert.InprojRefIdeal.τ).loc Cert.InprojRefIdeal.main_v20) = v5 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3))

def preserves_Inner_InnerIdeal : Prop :=
  True

def algebraic_InnerIdeal_InnerRefIdeal [hInnerIdeal : Cert.InnerIdeal.Facts] [hInnerRefIdeal : Cert.InnerRefIdeal.Facts] : Prop :=
  ∀ (m : (ℓ : Loc Cert.InnerIdeal.nD Cert.InnerIdeal.τ Cert.InnerIdeal.sig) → Buf (Elt Ideal) ℓ) (g : Dev Cert.InnerIdeal.nD → PrngReg)
    (m' : (ℓ : Loc Cert.InnerRefIdeal.nD Cert.InnerRefIdeal.τ Cert.InnerRefIdeal.sig) → Buf (Elt Ideal) ℓ) (g' : Dev Cert.InnerRefIdeal.nD → PrngReg), Pre_InnerIdeal m →
    (∀ c : Dev Cert.InnerIdeal.nD,
      m' ((c.tc : Thread Cert.InnerRefIdeal.nD Cert.InnerRefIdeal.τ).loc Cert.InnerRefIdeal.main_arg0) = m ((c.tc : Thread Cert.InnerIdeal.nD Cert.InnerIdeal.τ).loc Cert.InnerIdeal.main_arg0)
      ∧ m' ((c.tc : Thread Cert.InnerRefIdeal.nD Cert.InnerRefIdeal.τ).loc Cert.InnerRefIdeal.main_arg1) = m ((c.tc : Thread Cert.InnerIdeal.nD Cert.InnerIdeal.τ).loc Cert.InnerIdeal.main_arg1)
      ∧ m' ((c.tc : Thread Cert.InnerRefIdeal.nD Cert.InnerRefIdeal.τ).loc Cert.InnerRefIdeal.main_arg2) = m ((c.tc : Thread Cert.InnerIdeal.nD Cert.InnerIdeal.τ).loc Cert.InnerIdeal.main_arg2)
      ∧ m' ((c.tc : Thread Cert.InnerRefIdeal.nD Cert.InnerRefIdeal.τ).loc Cert.InnerRefIdeal.main_arg3) = m ((c.tc : Thread Cert.InnerIdeal.nD Cert.InnerIdeal.τ).loc Cert.InnerIdeal.main_arg3)
      ∧ m' ((c.tc : Thread Cert.InnerRefIdeal.nD Cert.InnerRefIdeal.τ).loc Cert.InnerRefIdeal.main_arg4) = m ((c.tc : Thread Cert.InnerIdeal.nD Cert.InnerIdeal.τ).loc Cert.InnerIdeal.main_arg4)
      ∧ m' ((c.tc : Thread Cert.InnerRefIdeal.nD Cert.InnerRefIdeal.τ).loc Cert.InnerRefIdeal.main_arg5) = m ((c.tc : Thread Cert.InnerIdeal.nD Cert.InnerIdeal.τ).loc Cert.InnerIdeal.main_arg5)
      ∧ m' ((c.tc : Thread Cert.InnerRefIdeal.nD Cert.InnerRefIdeal.τ).loc Cert.InnerRefIdeal.main_arg6) = m ((c.tc : Thread Cert.InnerIdeal.nD Cert.InnerIdeal.τ).loc Cert.InnerIdeal.main_arg6)
      ∧ m' ((c.tc : Thread Cert.InnerRefIdeal.nD Cert.InnerRefIdeal.τ).loc Cert.InnerRefIdeal.main_arg7) = m ((c.tc : Thread Cert.InnerIdeal.nD Cert.InnerIdeal.τ).loc Cert.InnerIdeal.main_arg7)
      ∧ m' ((c.tc : Thread Cert.InnerRefIdeal.nD Cert.InnerRefIdeal.τ).loc Cert.InnerRefIdeal.main_arg8) = m ((c.tc : Thread Cert.InnerIdeal.nD Cert.InnerIdeal.τ).loc Cert.InnerIdeal.main_arg8)
      ∧ m' ((c.tc : Thread Cert.InnerRefIdeal.nD Cert.InnerRefIdeal.τ).loc Cert.InnerRefIdeal.main_arg9) = m ((c.tc : Thread Cert.InnerIdeal.nD Cert.InnerIdeal.τ).loc Cert.InnerIdeal.main_arg9)
      ∧ m' ((c.tc : Thread Cert.InnerRefIdeal.nD Cert.InnerRefIdeal.τ).loc Cert.InnerRefIdeal.main_arg10) = m ((c.tc : Thread Cert.InnerIdeal.nD Cert.InnerIdeal.τ).loc Cert.InnerIdeal.main_arg10)
      ∧ m' ((c.tc : Thread Cert.InnerRefIdeal.nD Cert.InnerRefIdeal.τ).loc Cert.InnerRefIdeal.main_arg11) = m ((c.tc : Thread Cert.InnerIdeal.nD Cert.InnerIdeal.τ).loc Cert.InnerIdeal.main_arg11)
      ∧ m' ((c.tc : Thread Cert.InnerRefIdeal.nD Cert.InnerRefIdeal.τ).loc Cert.InnerRefIdeal.main_arg12) = m ((c.tc : Thread Cert.InnerIdeal.nD Cert.InnerIdeal.τ).loc Cert.InnerIdeal.main_arg12)
      ∧ m' ((c.tc : Thread Cert.InnerRefIdeal.nD Cert.InnerRefIdeal.τ).loc Cert.InnerRefIdeal.main_arg13) = m ((c.tc : Thread Cert.InnerIdeal.nD Cert.InnerIdeal.τ).loc Cert.InnerIdeal.main_arg13)
      ∧ m' ((c.tc : Thread Cert.InnerRefIdeal.nD Cert.InnerRefIdeal.τ).loc Cert.InnerRefIdeal.main_arg14) = m ((c.tc : Thread Cert.InnerIdeal.nD Cert.InnerIdeal.τ).loc Cert.InnerIdeal.main_arg14)
      ∧ m' ((c.tc : Thread Cert.InnerRefIdeal.nD Cert.InnerRefIdeal.τ).loc Cert.InnerRefIdeal.main_arg15) = m ((c.tc : Thread Cert.InnerIdeal.nD Cert.InnerIdeal.τ).loc Cert.InnerIdeal.main_arg15)
      ∧ m' ((c.tc : Thread Cert.InnerRefIdeal.nD Cert.InnerRefIdeal.τ).loc Cert.InnerRefIdeal.main_arg16) = m ((c.tc : Thread Cert.InnerIdeal.nD Cert.InnerIdeal.τ).loc Cert.InnerIdeal.main_arg16)) →
    ∃ (v0 : (c : Dev Cert.InnerIdeal.nD) → Buf (Elt Ideal) ((c.tc : Thread Cert.InnerIdeal.nD Cert.InnerIdeal.τ).loc Cert.InnerIdeal.main_v14)),
      θ_run (Cert.InnerIdeal.defs (F := Ideal)) (onTc (τ := Cert.InnerIdeal.τ) (Cert.InnerIdeal.main (F := Ideal))) ⟨m, fun _ => 0, g⟩ (fun r => ∀ c : Dev Cert.InnerIdeal.nD,
          r.2.mem ((c.tc : Thread Cert.InnerIdeal.nD Cert.InnerIdeal.τ).loc Cert.InnerIdeal.main_v14) = v0 c
          ∧ r.2.mem ((c.tc : Thread Cert.InnerIdeal.nD Cert.InnerIdeal.τ).loc Cert.InnerIdeal.main_arg0) = m ((c.tc : Thread Cert.InnerIdeal.nD Cert.InnerIdeal.τ).loc Cert.InnerIdeal.main_arg0)
          ∧ r.2.mem ((c.tc : Thread Cert.InnerIdeal.nD Cert.InnerIdeal.τ).loc Cert.InnerIdeal.main_arg1) = m ((c.tc : Thread Cert.InnerIdeal.nD Cert.InnerIdeal.τ).loc Cert.InnerIdeal.main_arg1)
          ∧ r.2.mem ((c.tc : Thread Cert.InnerIdeal.nD Cert.InnerIdeal.τ).loc Cert.InnerIdeal.main_arg2) = m ((c.tc : Thread Cert.InnerIdeal.nD Cert.InnerIdeal.τ).loc Cert.InnerIdeal.main_arg2)
          ∧ r.2.mem ((c.tc : Thread Cert.InnerIdeal.nD Cert.InnerIdeal.τ).loc Cert.InnerIdeal.main_arg3) = m ((c.tc : Thread Cert.InnerIdeal.nD Cert.InnerIdeal.τ).loc Cert.InnerIdeal.main_arg3)
          ∧ r.2.mem ((c.tc : Thread Cert.InnerIdeal.nD Cert.InnerIdeal.τ).loc Cert.InnerIdeal.main_arg4) = m ((c.tc : Thread Cert.InnerIdeal.nD Cert.InnerIdeal.τ).loc Cert.InnerIdeal.main_arg4)
          ∧ r.2.mem ((c.tc : Thread Cert.InnerIdeal.nD Cert.InnerIdeal.τ).loc Cert.InnerIdeal.main_arg5) = m ((c.tc : Thread Cert.InnerIdeal.nD Cert.InnerIdeal.τ).loc Cert.InnerIdeal.main_arg5)
          ∧ r.2.mem ((c.tc : Thread Cert.InnerIdeal.nD Cert.InnerIdeal.τ).loc Cert.InnerIdeal.main_arg6) = m ((c.tc : Thread Cert.InnerIdeal.nD Cert.InnerIdeal.τ).loc Cert.InnerIdeal.main_arg6)
          ∧ r.2.mem ((c.tc : Thread Cert.InnerIdeal.nD Cert.InnerIdeal.τ).loc Cert.InnerIdeal.main_arg7) = m ((c.tc : Thread Cert.InnerIdeal.nD Cert.InnerIdeal.τ).loc Cert.InnerIdeal.main_arg7)
          ∧ r.2.mem ((c.tc : Thread Cert.InnerIdeal.nD Cert.InnerIdeal.τ).loc Cert.InnerIdeal.main_arg8) = m ((c.tc : Thread Cert.InnerIdeal.nD Cert.InnerIdeal.τ).loc Cert.InnerIdeal.main_arg8)
          ∧ r.2.mem ((c.tc : Thread Cert.InnerIdeal.nD Cert.InnerIdeal.τ).loc Cert.InnerIdeal.main_arg9) = m ((c.tc : Thread Cert.InnerIdeal.nD Cert.InnerIdeal.τ).loc Cert.InnerIdeal.main_arg9)
          ∧ r.2.mem ((c.tc : Thread Cert.InnerIdeal.nD Cert.InnerIdeal.τ).loc Cert.InnerIdeal.main_arg10) = m ((c.tc : Thread Cert.InnerIdeal.nD Cert.InnerIdeal.τ).loc Cert.InnerIdeal.main_arg10)
          ∧ r.2.mem ((c.tc : Thread Cert.InnerIdeal.nD Cert.InnerIdeal.τ).loc Cert.InnerIdeal.main_arg11) = m ((c.tc : Thread Cert.InnerIdeal.nD Cert.InnerIdeal.τ).loc Cert.InnerIdeal.main_arg11)
          ∧ r.2.mem ((c.tc : Thread Cert.InnerIdeal.nD Cert.InnerIdeal.τ).loc Cert.InnerIdeal.main_arg12) = m ((c.tc : Thread Cert.InnerIdeal.nD Cert.InnerIdeal.τ).loc Cert.InnerIdeal.main_arg12)
          ∧ r.2.mem ((c.tc : Thread Cert.InnerIdeal.nD Cert.InnerIdeal.τ).loc Cert.InnerIdeal.main_arg13) = m ((c.tc : Thread Cert.InnerIdeal.nD Cert.InnerIdeal.τ).loc Cert.InnerIdeal.main_arg13)
          ∧ r.2.mem ((c.tc : Thread Cert.InnerIdeal.nD Cert.InnerIdeal.τ).loc Cert.InnerIdeal.main_arg14) = m ((c.tc : Thread Cert.InnerIdeal.nD Cert.InnerIdeal.τ).loc Cert.InnerIdeal.main_arg14)
          ∧ r.2.mem ((c.tc : Thread Cert.InnerIdeal.nD Cert.InnerIdeal.τ).loc Cert.InnerIdeal.main_arg15) = m ((c.tc : Thread Cert.InnerIdeal.nD Cert.InnerIdeal.τ).loc Cert.InnerIdeal.main_arg15)
          ∧ r.2.mem ((c.tc : Thread Cert.InnerIdeal.nD Cert.InnerIdeal.τ).loc Cert.InnerIdeal.main_arg16) = m ((c.tc : Thread Cert.InnerIdeal.nD Cert.InnerIdeal.τ).loc Cert.InnerIdeal.main_arg16))
      ∧ θ_run (Cert.InnerRefIdeal.defs (F := Ideal)) (onTc (τ := Cert.InnerRefIdeal.τ) (Cert.InnerRefIdeal.main (F := Ideal))) ⟨m', fun _ => 0, g'⟩ (fun r => ∀ c : Dev Cert.InnerRefIdeal.nD,
          r.2.mem ((c.tc : Thread Cert.InnerRefIdeal.nD Cert.InnerRefIdeal.τ).loc Cert.InnerRefIdeal.main_v63) = v0 c
          ∧ r.2.mem ((c.tc : Thread Cert.InnerRefIdeal.nD Cert.InnerRefIdeal.τ).loc Cert.InnerRefIdeal.main_arg0) = m' ((c.tc : Thread Cert.InnerRefIdeal.nD Cert.InnerRefIdeal.τ).loc Cert.InnerRefIdeal.main_arg0)
          ∧ r.2.mem ((c.tc : Thread Cert.InnerRefIdeal.nD Cert.InnerRefIdeal.τ).loc Cert.InnerRefIdeal.main_arg1) = m' ((c.tc : Thread Cert.InnerRefIdeal.nD Cert.InnerRefIdeal.τ).loc Cert.InnerRefIdeal.main_arg1)
          ∧ r.2.mem ((c.tc : Thread Cert.InnerRefIdeal.nD Cert.InnerRefIdeal.τ).loc Cert.InnerRefIdeal.main_arg2) = m' ((c.tc : Thread Cert.InnerRefIdeal.nD Cert.InnerRefIdeal.τ).loc Cert.InnerRefIdeal.main_arg2)
          ∧ r.2.mem ((c.tc : Thread Cert.InnerRefIdeal.nD Cert.InnerRefIdeal.τ).loc Cert.InnerRefIdeal.main_arg3) = m' ((c.tc : Thread Cert.InnerRefIdeal.nD Cert.InnerRefIdeal.τ).loc Cert.InnerRefIdeal.main_arg3)
          ∧ r.2.mem ((c.tc : Thread Cert.InnerRefIdeal.nD Cert.InnerRefIdeal.τ).loc Cert.InnerRefIdeal.main_arg4) = m' ((c.tc : Thread Cert.InnerRefIdeal.nD Cert.InnerRefIdeal.τ).loc Cert.InnerRefIdeal.main_arg4)
          ∧ r.2.mem ((c.tc : Thread Cert.InnerRefIdeal.nD Cert.InnerRefIdeal.τ).loc Cert.InnerRefIdeal.main_arg5) = m' ((c.tc : Thread Cert.InnerRefIdeal.nD Cert.InnerRefIdeal.τ).loc Cert.InnerRefIdeal.main_arg5)
          ∧ r.2.mem ((c.tc : Thread Cert.InnerRefIdeal.nD Cert.InnerRefIdeal.τ).loc Cert.InnerRefIdeal.main_arg6) = m' ((c.tc : Thread Cert.InnerRefIdeal.nD Cert.InnerRefIdeal.τ).loc Cert.InnerRefIdeal.main_arg6)
          ∧ r.2.mem ((c.tc : Thread Cert.InnerRefIdeal.nD Cert.InnerRefIdeal.τ).loc Cert.InnerRefIdeal.main_arg7) = m' ((c.tc : Thread Cert.InnerRefIdeal.nD Cert.InnerRefIdeal.τ).loc Cert.InnerRefIdeal.main_arg7)
          ∧ r.2.mem ((c.tc : Thread Cert.InnerRefIdeal.nD Cert.InnerRefIdeal.τ).loc Cert.InnerRefIdeal.main_arg8) = m' ((c.tc : Thread Cert.InnerRefIdeal.nD Cert.InnerRefIdeal.τ).loc Cert.InnerRefIdeal.main_arg8)
          ∧ r.2.mem ((c.tc : Thread Cert.InnerRefIdeal.nD Cert.InnerRefIdeal.τ).loc Cert.InnerRefIdeal.main_arg9) = m' ((c.tc : Thread Cert.InnerRefIdeal.nD Cert.InnerRefIdeal.τ).loc Cert.InnerRefIdeal.main_arg9)
          ∧ r.2.mem ((c.tc : Thread Cert.InnerRefIdeal.nD Cert.InnerRefIdeal.τ).loc Cert.InnerRefIdeal.main_arg10) = m' ((c.tc : Thread Cert.InnerRefIdeal.nD Cert.InnerRefIdeal.τ).loc Cert.InnerRefIdeal.main_arg10)
          ∧ r.2.mem ((c.tc : Thread Cert.InnerRefIdeal.nD Cert.InnerRefIdeal.τ).loc Cert.InnerRefIdeal.main_arg11) = m' ((c.tc : Thread Cert.InnerRefIdeal.nD Cert.InnerRefIdeal.τ).loc Cert.InnerRefIdeal.main_arg11)
          ∧ r.2.mem ((c.tc : Thread Cert.InnerRefIdeal.nD Cert.InnerRefIdeal.τ).loc Cert.InnerRefIdeal.main_arg12) = m' ((c.tc : Thread Cert.InnerRefIdeal.nD Cert.InnerRefIdeal.τ).loc Cert.InnerRefIdeal.main_arg12)
          ∧ r.2.mem ((c.tc : Thread Cert.InnerRefIdeal.nD Cert.InnerRefIdeal.τ).loc Cert.InnerRefIdeal.main_arg13) = m' ((c.tc : Thread Cert.InnerRefIdeal.nD Cert.InnerRefIdeal.τ).loc Cert.InnerRefIdeal.main_arg13)
          ∧ r.2.mem ((c.tc : Thread Cert.InnerRefIdeal.nD Cert.InnerRefIdeal.τ).loc Cert.InnerRefIdeal.main_arg14) = m' ((c.tc : Thread Cert.InnerRefIdeal.nD Cert.InnerRefIdeal.τ).loc Cert.InnerRefIdeal.main_arg14)
          ∧ r.2.mem ((c.tc : Thread Cert.InnerRefIdeal.nD Cert.InnerRefIdeal.τ).loc Cert.InnerRefIdeal.main_arg15) = m' ((c.tc : Thread Cert.InnerRefIdeal.nD Cert.InnerRefIdeal.τ).loc Cert.InnerRefIdeal.main_arg15)
          ∧ r.2.mem ((c.tc : Thread Cert.InnerRefIdeal.nD Cert.InnerRefIdeal.τ).loc Cert.InnerRefIdeal.main_arg16) = m' ((c.tc : Thread Cert.InnerRefIdeal.nD Cert.InnerRefIdeal.τ).loc Cert.InnerRefIdeal.main_arg16))

def Claim : Prop :=
  ∃ (hLru : Cert.Lru.Facts) (hLruIdeal : Cert.LruIdeal.Facts) (hLruRefIdeal : Cert.LruRefIdeal.Facts) (hMerge : Cert.Merge.Facts) (hMergeIdeal : Cert.MergeIdeal.Facts) (hMergeRefIdeal : Cert.MergeRefIdeal.Facts) (hInproj : Cert.Inproj.Facts) (hInprojIdeal : Cert.InprojIdeal.Facts) (hInprojRefIdeal : Cert.InprojRefIdeal.Facts) (hInner : Cert.Inner.Facts) (hInnerIdeal : Cert.InnerIdeal.Facts) (hInnerRefIdeal : Cert.InnerRefIdeal.Facts),
    quiescent_Lru (hLru := hLru)
    ∧ quiescent_LruIdeal (hLruIdeal := hLruIdeal)
    ∧ quiescent_LruRefIdeal (hLruRefIdeal := hLruRefIdeal)
    ∧ quiescent_Merge (hMerge := hMerge)
    ∧ quiescent_MergeIdeal (hMergeIdeal := hMergeIdeal)
    ∧ quiescent_MergeRefIdeal (hMergeRefIdeal := hMergeRefIdeal)
    ∧ quiescent_Inproj (hInproj := hInproj)
    ∧ quiescent_InprojIdeal (hInprojIdeal := hInprojIdeal)
    ∧ quiescent_InprojRefIdeal (hInprojRefIdeal := hInprojRefIdeal)
    ∧ quiescent_Inner (hInner := hInner)
    ∧ quiescent_InnerIdeal (hInnerIdeal := hInnerIdeal)
    ∧ quiescent_InnerRefIdeal (hInnerRefIdeal := hInnerRefIdeal)
    ∧ preserves_Lru_LruIdeal
    ∧ algebraic_LruIdeal_LruRefIdeal (hLruIdeal := hLruIdeal) (hLruRefIdeal := hLruRefIdeal)
    ∧ preserves_Merge_MergeIdeal
    ∧ algebraic_MergeIdeal_MergeRefIdeal (hMergeIdeal := hMergeIdeal) (hMergeRefIdeal := hMergeRefIdeal)
    ∧ preserves_Inproj_InprojIdeal
    ∧ algebraic_InprojIdeal_InprojRefIdeal (hInprojIdeal := hInprojIdeal) (hInprojRefIdeal := hInprojRefIdeal)
    ∧ preserves_Inner_InnerIdeal
    ∧ algebraic_InnerIdeal_InnerRefIdeal (hInnerIdeal := hInnerIdeal) (hInnerRefIdeal := hInnerRefIdeal)
-- ==== Lru.lean ====
abbrev S8x4096x512 : Shape := ⟨3, ![8, 4096, 512]⟩
abbrev S4x256 : Shape := ⟨2, ![4, 256]⟩
abbrev S256 : Shape := ⟨1, ![256]⟩
abbrev S4x64x64 : Shape := ⟨3, ![4, 64, 64]⟩
abbrev S1x256 : Shape := ⟨2, ![1, 256]⟩
abbrev S4x4 : Shape := ⟨2, ![4, 4]⟩
abbrev S_ : Shape := ⟨0, ![]⟩
abbrev S4x64x1x64 : Shape := ⟨4, ![4, 64, 1, 64]⟩
abbrev S4x1x4x1 : Shape := ⟨4, ![4, 1, 4, 1]⟩
abbrev S4x64x4x64 : Shape := ⟨4, ![4, 64, 4, 64]⟩
abbrev S256x256 : Shape := ⟨2, ![256, 256]⟩
abbrev S8x4096x256 : Shape := ⟨3, ![8, 4096, 256]⟩
abbrev S1x256x512 : Shape := ⟨3, ![1, 256, 512]⟩
abbrev S1x256x256 : Shape := ⟨3, ![1, 256, 256]⟩
abbrev S264x256 : Shape := ⟨2, ![264, 256]⟩
abbrev S8x256 : Shape := ⟨2, ![8, 256]⟩

abbrev nBuf : Space → Nat
  | .hbm => 41
  | .vmem => 13
  | .smem => 0
  | _ => 0

abbrev bufTy : (tb : Table) → Fin (tcTables nBuf tb) → BufTy
  | .hbm, ⟨0, _⟩ => ⟨S8x4096x512, .f32⟩
  | .hbm, ⟨1, _⟩ => ⟨S4x256, .f32⟩
  | .hbm, ⟨2, _⟩ => ⟨S256, .f32⟩
  | .hbm, ⟨3, _⟩ => ⟨S4x64x64, .f32⟩
  | .hbm, ⟨4, _⟩ => ⟨S256, .f32⟩
  | .hbm, ⟨5, _⟩ => ⟨S4x64x64, .f32⟩
  | .hbm, ⟨6, _⟩ => ⟨S256, .f32⟩
  | .hbm, ⟨7, _⟩ => ⟨S256, .f32⟩
  | .hbm, ⟨8, _⟩ => ⟨S1x256, .f32⟩
  | .hbm, ⟨9, _⟩ => ⟨S4x4, .i32⟩
  | .hbm, ⟨10, _⟩ => ⟨S4x4, .i32⟩
  | .hbm, ⟨11, _⟩ => ⟨S_, .i32⟩
  | .hbm, ⟨12, _⟩ => ⟨S4x4, .i32⟩
  | .hbm, ⟨13, _⟩ => ⟨S4x4, .i32⟩
  | .hbm, ⟨14, _⟩ => ⟨S4x4, .i1⟩
  | .hbm, ⟨15, _⟩ => ⟨S4x4, .f32⟩
  | .hbm, ⟨16, _⟩ => ⟨S4x64x1x64, .f32⟩
  | .hbm, ⟨17, _⟩ => ⟨S4x1x4x1, .f32⟩
  | .hbm, ⟨18, _⟩ => ⟨S4x64x4x64, .f32⟩
  | .hbm, ⟨19, _⟩ => ⟨S4x64x4x64, .f32⟩
  | .hbm, ⟨20, _⟩ => ⟨S4x64x4x64, .f32⟩
  | .hbm, ⟨21, _⟩ => ⟨S256x256, .f32⟩
  | .hbm, ⟨22, _⟩ => ⟨S256x256, .bf16⟩
  | .hbm, ⟨23, _⟩ => ⟨S1x256, .f32⟩
  | .hbm, ⟨24, _⟩ => ⟨S4x4, .i32⟩
  | .hbm, ⟨25, _⟩ => ⟨S4x4, .i32⟩
  | .hbm, ⟨26, _⟩ => ⟨S_, .i32⟩
  | .hbm, ⟨27, _⟩ => ⟨S4x4, .i32⟩
  | .hbm, ⟨28, _⟩ => ⟨S4x4, .i32⟩
  | .hbm, ⟨29, _⟩ => ⟨S4x4, .i1⟩
  | .hbm, ⟨30, _⟩ => ⟨S4x4, .f32⟩
  | .hbm, ⟨31, _⟩ => ⟨S4x64x1x64, .f32⟩
  | .hbm, ⟨32, _⟩ => ⟨S4x1x4x1, .f32⟩
  | .hbm, ⟨33, _⟩ => ⟨S4x64x4x64, .f32⟩
  | .hbm, ⟨34, _⟩ => ⟨S4x64x4x64, .f32⟩
  | .hbm, ⟨35, _⟩ => ⟨S4x64x4x64, .f32⟩
  | .hbm, ⟨36, _⟩ => ⟨S256x256, .f32⟩
  | .hbm, ⟨37, _⟩ => ⟨S256x256, .bf16⟩
  | .hbm, ⟨38, _⟩ => ⟨S1x256, .f32⟩
  | .hbm, ⟨39, _⟩ => ⟨S1x256, .f32⟩
  | .hbm, ⟨40, _⟩ => ⟨S8x4096x256, .f32⟩
  | .local _ .vmem, ⟨0, _⟩ => ⟨S1x256x512, .f32⟩
  | .local _ .vmem, ⟨1, _⟩ => ⟨S1x256x512, .f32⟩
  | .local _ .vmem, ⟨2, _⟩ => ⟨S4x256, .f32⟩
  | .local _ .vmem, ⟨3, _⟩ => ⟨S1x256, .f32⟩
  | .local _ .vmem, ⟨4, _⟩ => ⟨S256x256, .bf16⟩
  | .local _ .vmem, ⟨5, _⟩ => ⟨S1x256, .f32⟩
  | .local _ .vmem, ⟨6, _⟩ => ⟨S256x256, .bf16⟩
  | .local _ .vmem, ⟨7, _⟩ => ⟨S1x256, .f32⟩
  | .local _ .vmem, ⟨8, _⟩ => ⟨S1x256, .f32⟩
  | .local _ .vmem, ⟨9, _⟩ => ⟨S1x256x256, .f32⟩
  | .local _ .vmem, ⟨10, _⟩ => ⟨S1x256x256, .f32⟩
  | .local _ .vmem, ⟨11, _⟩ => ⟨S264x256, .f32⟩
  | .local _ .vmem, ⟨12, _⟩ => ⟨S8x256, .f32⟩
  | _, _ => ⟨S8x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== LruRefIdeal.lean ====
abbrev S8x4096x512 : Shape := ⟨3, ![8, 4096, 512]⟩
abbrev S4x256 : Shape := ⟨2, ![4, 256]⟩
abbrev S256 : Shape := ⟨1, ![256]⟩
abbrev S4x64x64 : Shape := ⟨3, ![4, 64, 64]⟩
abbrev S8x4096x256 : Shape := ⟨3, ![8, 4096, 256]⟩
abbrev S_ : Shape := ⟨0, ![]⟩
abbrev S8x4099x256 : Shape := ⟨3, ![8, 4099, 256]⟩
abbrev S1x256 : Shape := ⟨2, ![1, 256]⟩
abbrev S1x1x256 : Shape := ⟨3, ![1, 1, 256]⟩
abbrev S8x4096x4x64 : Shape := ⟨4, ![8, 4096, 4, 64]⟩
abbrev S4x64x8x4096 : Shape := ⟨4, ![4, 64, 8, 4096]⟩
abbrev S8x256 : Shape := ⟨2, ![8, 256]⟩
abbrev S4096x8x256 : Shape := ⟨3, ![4096, 8, 256]⟩
abbrev S1x8x256 : Shape := ⟨3, ![1, 8, 256]⟩

abbrev nBuf : Space → Nat
  | .hbm => 161
  | .vmem => 0
  | .smem => 0
  | _ => 0

abbrev hbmTy0_0 (i : Nat) : BufTy := match i % 128 with
  | 0 => ⟨S8x4096x512, .f32⟩
  | 1 => ⟨S4x256, .f32⟩
  | 2 => ⟨S256, .f32⟩
  | 3 => ⟨S4x64x64, .f32⟩
  | 4 => ⟨S256, .f32⟩
  | 5 => ⟨S4x64x64, .f32⟩
  | 6 => ⟨S256, .f32⟩
  | 7 => ⟨S256, .f32⟩
  | 8 => ⟨S8x4096x256, .f32⟩
  | 9 => ⟨S8x4096x256, .f32⟩
  | 10 => ⟨S_, .i32⟩
  | 11 => ⟨S_, .f32⟩
  | 12 => ⟨S8x4099x256, .f32⟩
  | 13 => ⟨S8x4096x256, .f32⟩
  | 14 => ⟨S1x256, .f32⟩
  | 15 => ⟨S256, .f32⟩
  | 16 => ⟨S1x1x256, .f32⟩
  | 17 => ⟨S8x4096x256, .f32⟩
  | 18 => ⟨S8x4096x256, .f32⟩
  | 19 => ⟨S8x4096x256, .f32⟩
  | 20 => ⟨S1x256, .f32⟩
  | 21 => ⟨S256, .f32⟩
  | 22 => ⟨S1x1x256, .f32⟩
  | 23 => ⟨S8x4096x256, .f32⟩
  | 24 => ⟨S8x4096x256, .f32⟩
  | 25 => ⟨S8x4096x256, .f32⟩
  | 26 => ⟨S8x4096x256, .f32⟩
  | 27 => ⟨S1x256, .f32⟩
  | 28 => ⟨S256, .f32⟩
  | 29 => ⟨S1x1x256, .f32⟩
  | 30 => ⟨S8x4096x256, .f32⟩
  | 31 => ⟨S8x4096x256, .f32⟩
  | 32 => ⟨S8x4096x256, .f32⟩
  | 33 => ⟨S8x4096x256, .f32⟩
  | 34 => ⟨S1x256, .f32⟩
  | 35 => ⟨S256, .f32⟩
  | 36 => ⟨S1x1x256, .f32⟩
  | 37 => ⟨S8x4096x256, .f32⟩
  | 38 => ⟨S8x4096x256, .f32⟩
  | 39 => ⟨S8x4096x256, .f32⟩
  | 40 => ⟨S1x1x256, .f32⟩
  | 41 => ⟨S8x4096x256, .f32⟩
  | 42 => ⟨S8x4096x256, .f32⟩
  | 43 => ⟨S8x4096x256, .f32⟩
  | 44 => ⟨S8x4096x256, .f32⟩
  | 45 => ⟨S_, .f32⟩
  | 46 => ⟨S8x4096x256, .f32⟩
  | 47 => ⟨S8x4096x256, .f32⟩
  | 48 => ⟨S8x4096x256, .f32⟩
  | 49 => ⟨S_, .f32⟩
  | 50 => ⟨S8x4096x256, .f32⟩
  | 51 => ⟨S8x4096x256, .f32⟩
  | 52 => ⟨S8x4096x256, .f32⟩
  | 53 => ⟨S_, .f32⟩
  | 54 => ⟨S8x4096x256, .f32⟩
  | 55 => ⟨S8x4096x256, .f32⟩
  | 56 => ⟨S_, .f32⟩
  | 57 => ⟨S8x4096x256, .f32⟩
  | 58 => ⟨S8x4096x256, .f32⟩
  | 59 => ⟨S8x4096x256, .f32⟩
  | 60 => ⟨S8x4096x4x64, .f32⟩
  | 61 => ⟨S4x64x8x4096, .f32⟩
  | 62 => ⟨S8x4096x4x64, .f32⟩
  | 63 => ⟨S8x4096x256, .f32⟩
  | 64 => ⟨S1x1x256, .f32⟩
  | 65 => ⟨S8x4096x256, .f32⟩
  | 66 => ⟨S8x4096x256, .f32⟩
  | 67 => ⟨S8x4096x256, .f32⟩
  | 68 => ⟨S8x4096x256, .f32⟩
  | 69 => ⟨S_, .f32⟩
  | 70 => ⟨S8x4096x256, .f32⟩
  | 71 => ⟨S8x4096x256, .f32⟩
  | 72 => ⟨S_, .f32⟩
  | 73 => ⟨S8x4096x256, .f32⟩
  | 74 => ⟨S8x4096x256, .f32⟩
  | 75 => ⟨S8x4096x4x64, .f32⟩
  | 76 => ⟨S4x64x8x4096, .f32⟩
  | 77 => ⟨S8x4096x4x64, .f32⟩
  | 78 => ⟨S8x4096x256, .f32⟩
  | 79 => ⟨S1x1x256, .f32⟩
  | 80 => ⟨S8x4096x256, .f32⟩
  | 81 => ⟨S8x4096x256, .f32⟩
  | 82 => ⟨S8x4096x256, .f32⟩
  | 83 => ⟨S8x4096x256, .f32⟩
  | 84 => ⟨S_, .f32⟩
  | 85 => ⟨S8x4096x256, .f32⟩
  | 86 => ⟨S8x4096x256, .f32⟩
  | 87 => ⟨S_, .f32⟩
  | 88 => ⟨S8x4096x256, .f32⟩
  | 89 => ⟨S8x4096x256, .f32⟩
  | 90 => ⟨S_, .f32⟩
  | 91 => ⟨S8x4096x256, .f32⟩
  | 92 => ⟨S8x4096x256, .f32⟩
  | 93 => ⟨S256, .f32⟩
  | 94 => ⟨S_, .f32⟩
  | 95 => ⟨S256, .f32⟩
  | 96 => ⟨S256, .f32⟩
  | 97 => ⟨S256, .f32⟩
  | 98 => ⟨S256, .f32⟩
  | 99 => ⟨S256, .i1⟩
  | 100 => ⟨S256, .f32⟩
  | 101 => ⟨S256, .f32⟩
  | 102 => ⟨S256, .f32⟩
  | 103 => ⟨S256, .f32⟩
  | 104 => ⟨S256, .f32⟩
  | 105 => ⟨S256, .f32⟩
  | 106 => ⟨S256, .f32⟩
  | 107 => ⟨S256, .f32⟩
  | 108 => ⟨S1x1x256, .f32⟩
  | 109 => ⟨S8x4096x256, .f32⟩
  | 110 => ⟨S8x4096x256, .f32⟩
  | 111 => ⟨S8x4096x256, .f32⟩
  | 112 => ⟨S_, .f32⟩
  | 113 => ⟨S8x4096x256, .f32⟩
  | 114 => ⟨S8x4096x256, .f32⟩
  | 115 => ⟨S8x4096x256, .f32⟩
  | 116 => ⟨S8x4096x256, .f32⟩
  | 117 => ⟨S_, .f32⟩
  | 118 => ⟨S8x4096x256, .f32⟩
  | 119 => ⟨S8x4096x256, .f32⟩
  | 120 => ⟨S8x4096x256, .f32⟩
  | 121 => ⟨S8x4096x256, .f32⟩
  | 122 => ⟨S8x4096x256, .f32⟩
  | 123 => ⟨S_, .f32⟩
  | 124 => ⟨S8x256, .f32⟩
  | 125 => ⟨S4096x8x256, .f32⟩
  | 126 => ⟨S4096x8x256, .f32⟩
  | 127 => ⟨S4096x8x256, .f32⟩
  | _ => ⟨S8x4096x512, .f32⟩

abbrev hbmTy0_1 (i : Nat) : BufTy := match i % 128 with
  | 0 => ⟨S_, .f32⟩
  | 1 => ⟨S4096x8x256, .f32⟩
  | 2 => ⟨S_, .i32⟩
  | 3 => ⟨S4096x8x256, .f32⟩
  | 4 => ⟨S4096x8x256, .f32⟩
  | 5 => ⟨S4096x8x256, .f32⟩
  | 6 => ⟨S_, .i32⟩
  | 7 => ⟨S8x256, .f32⟩
  | 8 => ⟨S4096x8x256, .f32⟩
  | 9 => ⟨S_, .i32⟩
  | 10 => ⟨S_, .i1⟩
  | 11 => ⟨S_, .i32⟩
  | 12 => ⟨S_, .i32⟩
  | 13 => ⟨S1x8x256, .f32⟩
  | 14 => ⟨S8x256, .f32⟩
  | 15 => ⟨S_, .i32⟩
  | 16 => ⟨S_, .i32⟩
  | 17 => ⟨S1x8x256, .f32⟩
  | 18 => ⟨S8x256, .f32⟩
  | 19 => ⟨S_, .i32⟩
  | 20 => ⟨S_, .i32⟩
  | 21 => ⟨S1x8x256, .f32⟩
  | 22 => ⟨S8x256, .f32⟩
  | 23 => ⟨S8x256, .f32⟩
  | 24 => ⟨S8x256, .f32⟩
  | 25 => ⟨S8x256, .f32⟩
  | 26 => ⟨S1x8x256, .f32⟩
  | 27 => ⟨S_, .i32⟩
  | 28 => ⟨S_, .i32⟩
  | 29 => ⟨S4096x8x256, .f32⟩
  | 30 => ⟨S_, .i32⟩
  | 31 => ⟨S_, .i32⟩
  | 32 => ⟨S8x4096x256, .f32⟩
  | _ => ⟨S8x4096x512, .f32⟩

abbrev hbmTy (i : Nat) : BufTy := match i / 128 with
  | 0 => hbmTy0_0 i
  | 1 => hbmTy0_1 i
  | _ => ⟨S8x4096x512, .f32⟩

abbrev bufTy : (tb : Table) → Fin (tcTables nBuf tb) → BufTy
  | .hbm, ⟨i, _⟩ => hbmTy i
  | _, _ => ⟨S8x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_call0_v0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_0 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_1 : Ref sig .tc := ⟨.hbm, 53, rfl⟩
abbrev main_v41 : Ref sig .tc := ⟨.hbm, 54, rfl⟩
abbrev main_v42 : Ref sig .tc := ⟨.hbm, 55, rfl⟩
abbrev main_cst_2 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_3 : Ref sig .tc := ⟨.hbm, 69, rfl⟩
abbrev main_v55 : Ref sig .tc := ⟨.hbm, 70, rfl⟩
abbrev main_v56 : Ref sig .tc := ⟨.hbm, 71, rfl⟩
abbrev main_cst_4 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_cst_5 : Ref sig .tc := ⟨.hbm, 84, rfl⟩
abbrev main_v68 : Ref sig .tc := ⟨.hbm, 85, rfl⟩
abbrev main_v69 : Ref sig .tc := ⟨.hbm, 86, rfl⟩
abbrev main_cst_6 : Ref sig .tc := ⟨.hbm, 87, rfl⟩
abbrev main_v70 : Ref sig .tc := ⟨.hbm, 88, rfl⟩
abbrev main_v71 : Ref sig .tc := ⟨.hbm, 89, rfl⟩
abbrev main_cst_7 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_call1_cst : Ref sig .tc := ⟨.hbm, 94, rfl⟩
abbrev main_call1_v0 : Ref sig .tc := ⟨.hbm, 95, rfl⟩
abbrev main_call1_v1 : Ref sig .tc := ⟨.hbm, 96, rfl⟩
abbrev main_call1_v2 : Ref sig .tc := ⟨.hbm, 97, rfl⟩
abbrev main_call1_v3 : Ref sig .tc := ⟨.hbm, 98, rfl⟩
abbrev main_call1_v4 : Ref sig .tc := ⟨.hbm, 99, rfl⟩
abbrev main_call1_v5 : Ref sig .tc := ⟨.hbm, 100, rfl⟩
abbrev main_call1_v6 : Ref sig .tc := ⟨.hbm, 101, rfl⟩
abbrev main_call1_v7 : Ref sig .tc := ⟨.hbm, 102, rfl⟩
abbrev main_call1_v8 : Ref sig .tc := ⟨.hbm, 103, rfl⟩
abbrev main_call1_v9 : Ref sig .tc := ⟨.hbm, 104, rfl⟩
abbrev main_call1_v10 : Ref sig .tc := ⟨.hbm, 105, rfl⟩
abbrev main_call1_v11 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_cst_8 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_cst_9 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_cst_10 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_cst_11 : Ref sig .tc := ⟨.hbm, 128, rfl⟩
abbrev main_v93 : Ref sig .tc := ⟨.hbm, 129, rfl⟩
abbrev main_c_12 : Ref sig .tc := ⟨.hbm, 130, rfl⟩
abbrev main_v94_0 : Ref sig .tc := ⟨.hbm, 131, rfl⟩
abbrev main_v94_1 : Ref sig .tc := ⟨.hbm, 132, rfl⟩
abbrev main_v94_2 : Ref sig .tc := ⟨.hbm, 133, rfl⟩
abbrev main_v94_3 : Ref sig .tc := ⟨.hbm, 134, rfl⟩
abbrev main_v94_4 : Ref sig .tc := ⟨.hbm, 135, rfl⟩
abbrev main_v94_5 : Ref sig .tc := ⟨.hbm, 136, rfl⟩
abbrev main_while0c_c_18 : Ref sig .tc := ⟨.hbm, 137, rfl⟩
abbrev main_while0c_v96 : Ref sig .tc := ⟨.hbm, 138, rfl⟩
abbrev main_while0b_call2_c : Ref sig .tc := ⟨.hbm, 139, rfl⟩
abbrev main_while0b_call2_c_0 : Ref sig .tc := ⟨.hbm, 140, rfl⟩
abbrev main_while0b_call2_v0 : Ref sig .tc := ⟨.hbm, 141, rfl⟩
abbrev main_while0b_v96 : Ref sig .tc := ⟨.hbm, 142, rfl⟩
abbrev main_while0b_call3_c : Ref sig .tc := ⟨.hbm, 143, rfl⟩
abbrev main_while0b_call3_c_0 : Ref sig .tc := ⟨.hbm, 144, rfl⟩
abbrev main_while0b_call3_v0 : Ref sig .tc := ⟨.hbm, 145, rfl⟩
abbrev main_while0b_v97 : Ref sig .tc := ⟨.hbm, 146, rfl⟩
abbrev main_while0b_call4_c : Ref sig .tc := ⟨.hbm, 147, rfl⟩
abbrev main_while0b_call4_c_0 : Ref sig .tc := ⟨.hbm, 148, rfl⟩
abbrev main_while0b_call4_v0 : Ref sig .tc := ⟨.hbm, 149, rfl⟩
abbrev main_while0b_v98 : Ref sig .tc := ⟨.hbm, 150, rfl⟩
abbrev main_while0b_v99 : Ref sig .tc := ⟨.hbm, 151, rfl⟩
abbrev main_while0b_v100 : Ref sig .tc := ⟨.hbm, 152, rfl⟩
abbrev main_while0b_v101 : Ref sig .tc := ⟨.hbm, 153, rfl⟩
abbrev main_while0b_call5_v0 : Ref sig .tc := ⟨.hbm, 154, rfl⟩
abbrev main_while0b_call5_c : Ref sig .tc := ⟨.hbm, 155, rfl⟩
abbrev main_while0b_call5_c_0 : Ref sig .tc := ⟨.hbm, 156, rfl⟩
abbrev main_while0b_v102 : Ref sig .tc := ⟨.hbm, 157, rfl⟩
abbrev main_while0b_c_18 : Ref sig .tc := ⟨.hbm, 158, rfl⟩
abbrev main_while0b_v103 : Ref sig .tc := ⟨.hbm, 159, rfl⟩
abbrev main_v95 : Ref sig .tc := ⟨.hbm, 160, rfl⟩

abbrev nD : Nat := 1
abbrev τ : Topo := Topo.v7x

variable {F : FTy → Type} [FloatOps F]

abbrev main_while0_count : Scf.Loop 32 := ⟨0#32, 4096#32, 1#32⟩
-- ==== Merge.lean ====
abbrev S32768x1024 : Shape := ⟨2, ![32768, 1024]⟩
abbrev S32768x256 : Shape := ⟨2, ![32768, 256]⟩
abbrev S1024 : Shape := ⟨1, ![1024]⟩
abbrev S1024x4096 : Shape := ⟨2, ![1024, 4096]⟩
abbrev S4096 : Shape := ⟨1, ![4096]⟩
abbrev S256x1024 : Shape := ⟨2, ![256, 1024]⟩
abbrev S1024x1024 : Shape := ⟨2, ![1024, 1024]⟩
abbrev S4096x1024 : Shape := ⟨2, ![4096, 1024]⟩
abbrev S1x256x1024 : Shape := ⟨3, ![1, 256, 1024]⟩
abbrev S4x256x1024 : Shape := ⟨3, ![4, 256, 1024]⟩
abbrev S1x1024 : Shape := ⟨2, ![1, 1024]⟩
abbrev S1x4096 : Shape := ⟨2, ![1, 4096]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩

abbrev nBuf : Space → Nat
  | .hbm => 32
  | .vmem => 22
  | .smem => 0
  | _ => 0

abbrev bufTy : (tb : Table) → Fin (tcTables nBuf tb) → BufTy
  | .hbm, ⟨0, _⟩ => ⟨S32768x1024, .f32⟩
  | .hbm, ⟨1, _⟩ => ⟨S32768x256, .f32⟩
  | .hbm, ⟨2, _⟩ => ⟨S32768x256, .f32⟩
  | .hbm, ⟨3, _⟩ => ⟨S32768x256, .f32⟩
  | .hbm, ⟨4, _⟩ => ⟨S32768x256, .f32⟩
  | .hbm, ⟨5, _⟩ => ⟨S1024, .f32⟩
  | .hbm, ⟨6, _⟩ => ⟨S1024x4096, .f32⟩
  | .hbm, ⟨7, _⟩ => ⟨S4096, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S256x1024, .f32⟩
  | .hbm, ⟨12, _⟩ => ⟨S1024x1024, .f32⟩
  | .hbm, ⟨13, _⟩ => ⟨S1024, .f32⟩
  | .hbm, ⟨14, _⟩ => ⟨S1024x4096, .f32⟩
  | .hbm, ⟨15, _⟩ => ⟨S4096x1024, .f32⟩
  | .hbm, ⟨16, _⟩ => ⟨S1024, .f32⟩
  | .hbm, ⟨17, _⟩ => ⟨S1x256x1024, .f32⟩
  | .hbm, ⟨18, _⟩ => ⟨S1x256x1024, .f32⟩
  | .hbm, ⟨19, _⟩ => ⟨S1x256x1024, .f32⟩
  | .hbm, ⟨20, _⟩ => ⟨S1x256x1024, .f32⟩
  | .hbm, ⟨21, _⟩ => ⟨S4x256x1024, .f32⟩
  | .hbm, ⟨22, _⟩ => ⟨S4x256x1024, .bf16⟩
  | .hbm, ⟨23, _⟩ => ⟨S1x1024, .f32⟩
  | .hbm, ⟨24, _⟩ => ⟨S1024x4096, .bf16⟩
  | .hbm, ⟨25, _⟩ => ⟨S1x4096, .f32⟩
  | .hbm, ⟨26, _⟩ => ⟨S1024x1024, .bf16⟩
  | .hbm, ⟨27, _⟩ => ⟨S1x1024, .f32⟩
  | .hbm, ⟨28, _⟩ => ⟨S1024x4096, .bf16⟩
  | .hbm, ⟨29, _⟩ => ⟨S4096x1024, .bf16⟩
  | .hbm, ⟨30, _⟩ => ⟨S1x1024, .f32⟩
  | .hbm, ⟨31, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S1x1024, .f32⟩
  | .local _ .vmem, ⟨11, _⟩ => ⟨S1024x4096, .bf16⟩
  | .local _ .vmem, ⟨12, _⟩ => ⟨S1x4096, .f32⟩
  | .local _ .vmem, ⟨13, _⟩ => ⟨S4x256x1024, .bf16⟩
  | .local _ .vmem, ⟨14, _⟩ => ⟨S1024x1024, .bf16⟩
  | .local _ .vmem, ⟨15, _⟩ => ⟨S1x1024, .f32⟩
  | .local _ .vmem, ⟨16, _⟩ => ⟨S1024x4096, .bf16⟩
  | .local _ .vmem, ⟨17, _⟩ => ⟨S4096x1024, .bf16⟩
  | .local _ .vmem, ⟨18, _⟩ => ⟨S1x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg14_1 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem14_1 : DmaSem sig := 20

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x4096 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4096x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== MergeRefIdeal.lean ====
abbrev S32768x1024 : Shape := ⟨2, ![32768, 1024]⟩
abbrev S32768x256 : Shape := ⟨2, ![32768, 256]⟩
abbrev S1024 : Shape := ⟨1, ![1024]⟩
abbrev S1024x4096 : Shape := ⟨2, ![1024, 4096]⟩
abbrev S4096 : Shape := ⟨1, ![4096]⟩
abbrev S256x1024 : Shape := ⟨2, ![256, 1024]⟩
abbrev S1024x1024 : Shape := ⟨2, ![1024, 1024]⟩
abbrev S4096x1024 : Shape := ⟨2, ![4096, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x4096 : Shape := ⟨2, ![32768, 4096]⟩
abbrev S1x4096 : Shape := ⟨2, ![1, 4096]⟩
abbrev S32768x4x1024 : Shape := ⟨3, ![32768, 4, 1024]⟩
abbrev S32768x1x1024 : Shape := ⟨3, ![32768, 1, 1024]⟩

abbrev nBuf : Space → Nat
  | .hbm => 106
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x256, .f32⟩
  | .hbm, ⟨2, _⟩ => ⟨S32768x256, .f32⟩
  | .hbm, ⟨3, _⟩ => ⟨S32768x256, .f32⟩
  | .hbm, ⟨4, _⟩ => ⟨S32768x256, .f32⟩
  | .hbm, ⟨5, _⟩ => ⟨S1024, .f32⟩
  | .hbm, ⟨6, _⟩ => ⟨S1024x4096, .f32⟩
  | .hbm, ⟨7, _⟩ => ⟨S4096, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S256x1024, .f32⟩
  | .hbm, ⟨12, _⟩ => ⟨S1024x1024, .f32⟩
  | .hbm, ⟨13, _⟩ => ⟨S1024, .f32⟩
  | .hbm, ⟨14, _⟩ => ⟨S1024x4096, .f32⟩
  | .hbm, ⟨15, _⟩ => ⟨S4096x1024, .f32⟩
  | .hbm, ⟨16, _⟩ => ⟨S1024, .f32⟩
  | .hbm, ⟨17, _⟩ => ⟨S32768x1024, .f32⟩
  | .hbm, ⟨18, _⟩ => ⟨S_, .f32⟩
  | .hbm, ⟨19, _⟩ => ⟨S32768, .f32⟩
  | .hbm, ⟨20, _⟩ => ⟨S32768x1, .f32⟩
  | .hbm, ⟨21, _⟩ => ⟨S_, .f32⟩
  | .hbm, ⟨22, _⟩ => ⟨S32768x1, .f32⟩
  | .hbm, ⟨23, _⟩ => ⟨S32768x1, .f32⟩
  | .hbm, ⟨24, _⟩ => ⟨S_, .f32⟩
  | .hbm, ⟨25, _⟩ => ⟨S32768x1, .f32⟩
  | .hbm, ⟨26, _⟩ => ⟨S32768x1, .f32⟩
  | .hbm, ⟨27, _⟩ => ⟨S32768x1, .f32⟩
  | .hbm, ⟨28, _⟩ => ⟨S32768x1024, .f32⟩
  | .hbm, ⟨29, _⟩ => ⟨S32768x1024, .f32⟩
  | .hbm, ⟨30, _⟩ => ⟨S1x1024, .f32⟩
  | .hbm, ⟨31, _⟩ => ⟨S32768x1024, .f32⟩
  | .hbm, ⟨32, _⟩ => ⟨S32768x1024, .f32⟩
  | .hbm, ⟨33, _⟩ => ⟨S32768x4096, .f32⟩
  | .hbm, ⟨34, _⟩ => ⟨S1x4096, .f32⟩
  | .hbm, ⟨35, _⟩ => ⟨S32768x4096, .f32⟩
  | .hbm, ⟨36, _⟩ => ⟨S32768x4096, .f32⟩
  | .hbm, ⟨37, _⟩ => ⟨S32768x4096, .f32⟩
  | .hbm, ⟨38, _⟩ => ⟨S32768x4096, .f32⟩
  | .hbm, ⟨39, _⟩ => ⟨S_, .f32⟩
  | .hbm, ⟨40, _⟩ => ⟨S32768x4096, .f32⟩
  | .hbm, ⟨41, _⟩ => ⟨S32768x4096, .f32⟩
  | .hbm, ⟨42, _⟩ => ⟨S_, .f32⟩
  | .hbm, ⟨43, _⟩ => ⟨S32768x4096, .f32⟩
  | .hbm, ⟨44, _⟩ => ⟨S32768x4096, .f32⟩
  | .hbm, ⟨45, _⟩ => ⟨S32768x4x1024, .f32⟩
  | .hbm, ⟨46, _⟩ => ⟨S32768x1x1024, .f32⟩
  | .hbm, ⟨47, _⟩ => ⟨S32768x1024, .f32⟩
  | .hbm, ⟨48, _⟩ => ⟨S32768x1024, .f32⟩
  | .hbm, ⟨49, _⟩ => ⟨S32768x1024, .f32⟩
  | .hbm, ⟨50, _⟩ => ⟨S32768x1x1024, .f32⟩
  | .hbm, ⟨51, _⟩ => ⟨S32768x1024, .f32⟩
  | .hbm, ⟨52, _⟩ => ⟨S32768x1024, .f32⟩
  | .hbm, ⟨53, _⟩ => ⟨S32768x1024, .f32⟩
  | .hbm, ⟨54, _⟩ => ⟨S32768x1024, .f32⟩
  | .hbm, ⟨55, _⟩ => ⟨S32768x1x1024, .f32⟩
  | .hbm, ⟨56, _⟩ => ⟨S32768x1024, .f32⟩
  | .hbm, ⟨57, _⟩ => ⟨S32768x1024, .f32⟩
  | .hbm, ⟨58, _⟩ => ⟨S32768x1024, .f32⟩
  | .hbm, ⟨59, _⟩ => ⟨S32768x1024, .f32⟩
  | .hbm, ⟨60, _⟩ => ⟨S32768x1x1024, .f32⟩
  | .hbm, ⟨61, _⟩ => ⟨S32768x1024, .f32⟩
  | .hbm, ⟨62, _⟩ => ⟨S32768x1024, .f32⟩
  | .hbm, ⟨63, _⟩ => ⟨S32768x1024, .f32⟩
  | .hbm, ⟨64, _⟩ => ⟨S32768x1024, .f32⟩
  | .hbm, ⟨65, _⟩ => ⟨S32768x1024, .f32⟩
  | .hbm, ⟨66, _⟩ => ⟨S32768x1024, .f32⟩
  | .hbm, ⟨67, _⟩ => ⟨S32768x1024, .f32⟩
  | .hbm, ⟨68, _⟩ => ⟨S_, .f32⟩
  | .hbm, ⟨69, _⟩ => ⟨S32768, .f32⟩
  | .hbm, ⟨70, _⟩ => ⟨S32768x1, .f32⟩
  | .hbm, ⟨71, _⟩ => ⟨S_, .f32⟩
  | .hbm, ⟨72, _⟩ => ⟨S32768x1, .f32⟩
  | .hbm, ⟨73, _⟩ => ⟨S32768x1, .f32⟩
  | .hbm, ⟨74, _⟩ => ⟨S_, .f32⟩
  | .hbm, ⟨75, _⟩ => ⟨S32768x1, .f32⟩
  | .hbm, ⟨76, _⟩ => ⟨S32768x1, .f32⟩
  | .hbm, ⟨77, _⟩ => ⟨S32768x1, .f32⟩
  | .hbm, ⟨78, _⟩ => ⟨S32768x1024, .f32⟩
  | .hbm, ⟨79, _⟩ => ⟨S32768x1024, .f32⟩
  | .hbm, ⟨80, _⟩ => ⟨S1x1024, .f32⟩
  | .hbm, ⟨81, _⟩ => ⟨S32768x1024, .f32⟩
  | .hbm, ⟨82, _⟩ => ⟨S32768x1024, .f32⟩
  | .hbm, ⟨83, _⟩ => ⟨S32768x4096, .f32⟩
  | .hbm, ⟨84, _⟩ => ⟨S_, .f32⟩
  | .hbm, ⟨85, _⟩ => ⟨S32768x4096, .f32⟩
  | .hbm, ⟨86, _⟩ => ⟨S32768x4096, .f32⟩
  | .hbm, ⟨87, _⟩ => ⟨S32768x4096, .f32⟩
  | .hbm, ⟨88, _⟩ => ⟨S32768x1024, .f32⟩
  | .hbm, ⟨89, _⟩ => ⟨S32768x1024, .f32⟩
  | .hbm, ⟨90, _⟩ => ⟨S32768x1024, .f32⟩
  | .hbm, ⟨91, _⟩ => ⟨S_, .f32⟩
  | .hbm, ⟨92, _⟩ => ⟨S32768, .f32⟩
  | .hbm, ⟨93, _⟩ => ⟨S32768x1, .f32⟩
  | .hbm, ⟨94, _⟩ => ⟨S_, .f32⟩
  | .hbm, ⟨95, _⟩ => ⟨S32768x1, .f32⟩
  | .hbm, ⟨96, _⟩ => ⟨S32768x1, .f32⟩
  | .hbm, ⟨97, _⟩ => ⟨S_, .f32⟩
  | .hbm, ⟨98, _⟩ => ⟨S32768x1, .f32⟩
  | .hbm, ⟨99, _⟩ => ⟨S32768x1, .f32⟩
  | .hbm, ⟨100, _⟩ => ⟨S32768x1, .f32⟩
  | .hbm, ⟨101, _⟩ => ⟨S32768x1024, .f32⟩
  | .hbm, ⟨102, _⟩ => ⟨S32768x1024, .f32⟩
  | .hbm, ⟨103, _⟩ => ⟨S1x1024, .f32⟩
  | .hbm, ⟨104, _⟩ => ⟨S32768x1024, .f32⟩
  | .hbm, ⟨105, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_cst : Ref sig .tc := ⟨.hbm, 18, rfl⟩
abbrev main_v1 : Ref sig .tc := ⟨.hbm, 19, rfl⟩
abbrev main_v2 : Ref sig .tc := ⟨.hbm, 20, rfl⟩
abbrev main_cst_0 : Ref sig .tc := ⟨.hbm, 21, rfl⟩
abbrev main_v3 : Ref sig .tc := ⟨.hbm, 22, rfl⟩
abbrev main_v4 : Ref sig .tc := ⟨.hbm, 23, rfl⟩
abbrev main_cst_1 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_2 : Ref sig .tc := ⟨.hbm, 39, rfl⟩
abbrev main_v19 : Ref sig .tc := ⟨.hbm, 40, rfl⟩
abbrev main_v20 : Ref sig .tc := ⟨.hbm, 41, rfl⟩
abbrev main_cst_3 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_4 : Ref sig .tc := ⟨.hbm, 68, rfl⟩
abbrev main_v46 : Ref sig .tc := ⟨.hbm, 69, rfl⟩
abbrev main_v47 : Ref sig .tc := ⟨.hbm, 70, rfl⟩
abbrev main_cst_5 : Ref sig .tc := ⟨.hbm, 71, rfl⟩
abbrev main_v48 : Ref sig .tc := ⟨.hbm, 72, rfl⟩
abbrev main_v49 : Ref sig .tc := ⟨.hbm, 73, rfl⟩
abbrev main_cst_6 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_7 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_8 : Ref sig .tc := ⟨.hbm, 91, rfl⟩
abbrev main_v65 : Ref sig .tc := ⟨.hbm, 92, rfl⟩
abbrev main_v66 : Ref sig .tc := ⟨.hbm, 93, rfl⟩
abbrev main_cst_9 : Ref sig .tc := ⟨.hbm, 94, rfl⟩
abbrev main_v67 : Ref sig .tc := ⟨.hbm, 95, rfl⟩
abbrev main_v68 : Ref sig .tc := ⟨.hbm, 96, rfl⟩
abbrev main_cst_10 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩

abbrev nD : Nat := 1
abbrev τ : Topo := Topo.v7x

variable {F : FTy → Type} [FloatOps F]
-- ==== Inproj.lean ====
abbrev S32768x1024 : Shape := ⟨2, ![32768, 1024]⟩
abbrev S1024 : Shape := ⟨1, ![1024]⟩
abbrev S1024x3712 : Shape := ⟨2, ![1024, 3712]⟩
abbrev S128 : Shape := ⟨1, ![128]⟩
abbrev S1x1024 : Shape := ⟨2, ![1, 1024]⟩
abbrev S1x128 : Shape := ⟨2, ![1, 128]⟩
abbrev S32768x640 : Shape := ⟨2, ![32768, 640]⟩
abbrev S32768x384 : Shape := ⟨2, ![32768, 384]⟩
abbrev S64x128x512 : Shape := ⟨3, ![64, 128, 512]⟩
abbrev S32768x1152 : Shape := ⟨2, ![32768, 1152]⟩
abbrev S32768x512 : Shape := ⟨2, ![32768, 512]⟩
abbrev S512x1024 : Shape := ⟨2, ![512, 1024]⟩
abbrev S512x640 : Shape := ⟨2, ![512, 640]⟩
abbrev S512x384 : Shape := ⟨2, ![512, 384]⟩
abbrev S1x128x512 : Shape := ⟨3, ![1, 128, 512]⟩
abbrev S512x1152 : Shape := ⟨2, ![512, 1152]⟩
abbrev S512x512 : Shape := ⟨2, ![512, 512]⟩
abbrev S512 : Shape := ⟨1, ![512]⟩
abbrev S512x1 : Shape := ⟨2, ![512, 1]⟩
abbrev S1024x640 : Shape := ⟨2, ![1024, 640]⟩
abbrev S1024x384 : Shape := ⟨2, ![1024, 384]⟩
abbrev S512x128 : Shape := ⟨2, ![512, 128]⟩
abbrev S512x256 : Shape := ⟨2, ![512, 256]⟩
abbrev S128x512 : Shape := ⟨2, ![128, 512]⟩
abbrev S1024x1152 : Shape := ⟨2, ![1024, 1152]⟩
abbrev S1024x512 : Shape := ⟨2, ![1024, 512]⟩
abbrev S1024x1024 : Shape := ⟨2, ![1024, 1024]⟩

abbrev nBuf : Space → Nat
  | .hbm => 12
  | .vmem => 17
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x3712, .bf16⟩
  | .hbm, ⟨3, _⟩ => ⟨S128, .f32⟩
  | .hbm, ⟨4, _⟩ => ⟨S1x1024, .f32⟩
  | .hbm, ⟨5, _⟩ => ⟨S1x128, .f32⟩
  | .hbm, ⟨6, _⟩ => ⟨S32768x640, .f32⟩
  | .hbm, ⟨7, _⟩ => ⟨S32768x384, .bf16⟩
  | .hbm, ⟨8, _⟩ => ⟨S64x128x512, .bf16⟩
  | .hbm, ⟨9, _⟩ => ⟨S32768x1152, .f32⟩
  | .hbm, ⟨10, _⟩ => ⟨S32768x512, .f32⟩
  | .hbm, ⟨11, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3712, .bf16⟩
  | .local _ .vmem, ⟨4, _⟩ => ⟨S1x128, .f32⟩
  | .local _ .vmem, ⟨5, _⟩ => ⟨S512x640, .f32⟩
  | .local _ .vmem, ⟨6, _⟩ => ⟨S512x640, .f32⟩
  | .local _ .vmem, ⟨7, _⟩ => ⟨S512x384, .bf16⟩
  | .local _ .vmem, ⟨8, _⟩ => ⟨S512x384, .bf16⟩
  | .local _ .vmem, ⟨9, _⟩ => ⟨S1x128x512, .bf16⟩
  | .local _ .vmem, ⟨10, _⟩ => ⟨S1x128x512, .bf16⟩
  | .local _ .vmem, ⟨11, _⟩ => ⟨S512x1152, .f32⟩
  | .local _ .vmem, ⟨12, _⟩ => ⟨S512x1152, .f32⟩
  | .local _ .vmem, ⟨13, _⟩ => ⟨S512x512, .f32⟩
  | .local _ .vmem, ⟨14, _⟩ => ⟨S512x512, .f32⟩
  | .local _ .vmem, ⟨15, _⟩ => ⟨S512x1024, .f32⟩
  | .local _ .vmem, ⟨16, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_v2_4 : Ref sig .tc := ⟨.hbm, 10, rfl⟩
abbrev main_v2_5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3712 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x384 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1152 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== InprojRefIdeal.lean ====
abbrev S32768x1024 : Shape := ⟨2, ![32768, 1024]⟩
abbrev S1024 : Shape := ⟨1, ![1024]⟩
abbrev S1024x3712 : Shape := ⟨2, ![1024, 3712]⟩
abbrev S128 : Shape := ⟨1, ![128]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x3712 : Shape := ⟨2, ![32768, 3712]⟩
abbrev S32768x640 : Shape := ⟨2, ![32768, 640]⟩
abbrev S32768x128 : Shape := ⟨2, ![32768, 128]⟩
abbrev S32768x256 : Shape := ⟨2, ![32768, 256]⟩
abbrev S32768x1152 : Shape := ⟨2, ![32768, 1152]⟩
abbrev S32768x512 : Shape := ⟨2, ![32768, 512]⟩
abbrev S1x128 : Shape := ⟨2, ![1, 128]⟩
abbrev S32768x384 : Shape := ⟨2, ![32768, 384]⟩
abbrev S64x512x128 : Shape := ⟨3, ![64, 512, 128]⟩
abbrev S64x128x512 : Shape := ⟨3, ![64, 128, 512]⟩

abbrev nBuf : Space → Nat
  | .hbm => 49
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x3712, .bf16⟩
  | .hbm, ⟨3, _⟩ => ⟨S128, .f32⟩
  | .hbm, ⟨4, _⟩ => ⟨S32768x1024, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S_, .f32⟩
  | .hbm, ⟨9, _⟩ => ⟨S32768x1, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S32768x1, .f32⟩
  | .hbm, ⟨15, _⟩ => ⟨S32768x1024, .f32⟩
  | .hbm, ⟨16, _⟩ => ⟨S32768x1024, .f32⟩
  | .hbm, ⟨17, _⟩ => ⟨S1x1024, .f32⟩
  | .hbm, ⟨18, _⟩ => ⟨S32768x1024, .f32⟩
  | .hbm, ⟨19, _⟩ => ⟨S32768x1024, .f32⟩
  | .hbm, ⟨20, _⟩ => ⟨S1024x3712, .f32⟩
  | .hbm, ⟨21, _⟩ => ⟨S32768x3712, .f32⟩
  | .hbm, ⟨22, _⟩ => ⟨S32768x640, .f32⟩
  | .hbm, ⟨23, _⟩ => ⟨S32768x128, .f32⟩
  | .hbm, ⟨24, _⟩ => ⟨S32768x256, .f32⟩
  | .hbm, ⟨25, _⟩ => ⟨S32768x1152, .f32⟩
  | .hbm, ⟨26, _⟩ => ⟨S32768x512, .f32⟩
  | .hbm, ⟨27, _⟩ => ⟨S32768x1024, .f32⟩
  | .hbm, ⟨28, _⟩ => ⟨S32768x128, .f32⟩
  | .hbm, ⟨29, _⟩ => ⟨S_, .f32⟩
  | .hbm, ⟨30, _⟩ => ⟨S32768, .f32⟩
  | .hbm, ⟨31, _⟩ => ⟨S32768x1, .f32⟩
  | .hbm, ⟨32, _⟩ => ⟨S_, .f32⟩
  | .hbm, ⟨33, _⟩ => ⟨S32768x1, .f32⟩
  | .hbm, ⟨34, _⟩ => ⟨S32768x1, .f32⟩
  | .hbm, ⟨35, _⟩ => ⟨S_, .f32⟩
  | .hbm, ⟨36, _⟩ => ⟨S32768x1, .f32⟩
  | .hbm, ⟨37, _⟩ => ⟨S32768x1, .f32⟩
  | .hbm, ⟨38, _⟩ => ⟨S32768x1, .f32⟩
  | .hbm, ⟨39, _⟩ => ⟨S32768x128, .f32⟩
  | .hbm, ⟨40, _⟩ => ⟨S32768x128, .f32⟩
  | .hbm, ⟨41, _⟩ => ⟨S1x128, .f32⟩
  | .hbm, ⟨42, _⟩ => ⟨S32768x128, .f32⟩
  | .hbm, ⟨43, _⟩ => ⟨S32768x128, .f32⟩
  | .hbm, ⟨44, _⟩ => ⟨S32768x384, .f32⟩
  | .hbm, ⟨45, _⟩ => ⟨S32768x384, .bf16⟩
  | .hbm, ⟨46, _⟩ => ⟨S64x512x128, .f32⟩
  | .hbm, ⟨47, _⟩ => ⟨S64x128x512, .f32⟩
  | .hbm, ⟨48, _⟩ => ⟨S64x128x512, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩

abbrev nD : Nat := 1
abbrev τ : Topo := Topo.v7x

variable {F : FTy → Type} [FloatOps F]
-- ==== Inner.lean ====
abbrev S32768x1024 : Shape := ⟨2, ![32768, 1024]⟩
abbrev S32768x256 : Shape := ⟨2, ![32768, 256]⟩
abbrev S1024 : Shape := ⟨1, ![1024]⟩
abbrev S1024x4096 : Shape := ⟨2, ![1024, 4096]⟩
abbrev S4096 : Shape := ⟨1, ![4096]⟩
abbrev S256x1024 : Shape := ⟨2, ![256, 1024]⟩
abbrev S1024x1024 : Shape := ⟨2, ![1024, 1024]⟩
abbrev S4096x1024 : Shape := ⟨2, ![4096, 1024]⟩
abbrev S1x256x1024 : Shape := ⟨3, ![1, 256, 1024]⟩
abbrev S4x256x1024 : Shape := ⟨3, ![4, 256, 1024]⟩
abbrev S1x1024 : Shape := ⟨2, ![1, 1024]⟩
abbrev S1x4096 : Shape := ⟨2, ![1, 4096]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩

abbrev nBuf : Space → Nat
  | .hbm => 32
  | .vmem => 22
  | .smem => 0
  | _ => 0

abbrev bufTy : (tb : Table) → Fin (tcTables nBuf tb) → BufTy
  | .hbm, ⟨0, _⟩ => ⟨S32768x1024, .f32⟩
  | .hbm, ⟨1, _⟩ => ⟨S32768x256, .f32⟩
  | .hbm, ⟨2, _⟩ => ⟨S32768x256, .f32⟩
  | .hbm, ⟨3, _⟩ => ⟨S32768x256, .f32⟩
  | .hbm, ⟨4, _⟩ => ⟨S32768x256, .f32⟩
  | .hbm, ⟨5, _⟩ => ⟨S1024, .f32⟩
  | .hbm, ⟨6, _⟩ => ⟨S1024x4096, .f32⟩
  | .hbm, ⟨7, _⟩ => ⟨S4096, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S256x1024, .f32⟩
  | .hbm, ⟨12, _⟩ => ⟨S1024x1024, .f32⟩
  | .hbm, ⟨13, _⟩ => ⟨S1024, .f32⟩
  | .hbm, ⟨14, _⟩ => ⟨S1024x4096, .f32⟩
  | .hbm, ⟨15, _⟩ => ⟨S4096x1024, .f32⟩
  | .hbm, ⟨16, _⟩ => ⟨S1024, .f32⟩
  | .hbm, ⟨17, _⟩ => ⟨S1x256x1024, .f32⟩
  | .hbm, ⟨18, _⟩ => ⟨S1x256x1024, .f32⟩
  | .hbm, ⟨19, _⟩ => ⟨S1x256x1024, .f32⟩
  | .hbm, ⟨20, _⟩ => ⟨S1x256x1024, .f32⟩
  | .hbm, ⟨21, _⟩ => ⟨S4x256x1024, .f32⟩
  | .hbm, ⟨22, _⟩ => ⟨S4x256x1024, .bf16⟩
  | .hbm, ⟨23, _⟩ => ⟨S1x1024, .f32⟩
  | .hbm, ⟨24, _⟩ => ⟨S1024x4096, .bf16⟩
  | .hbm, ⟨25, _⟩ => ⟨S1x4096, .f32⟩
  | .hbm, ⟨26, _⟩ => ⟨S1024x1024, .bf16⟩
  | .hbm, ⟨27, _⟩ => ⟨S1x1024, .f32⟩
  | .hbm, ⟨28, _⟩ => ⟨S1024x4096, .bf16⟩
  | .hbm, ⟨29, _⟩ => ⟨S4096x1024, .bf16⟩
  | .hbm, ⟨30, _⟩ => ⟨S1x1024, .f32⟩
  | .hbm, ⟨31, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S1x1024, .f32⟩
  | .local _ .vmem, ⟨11, _⟩ => ⟨S1024x4096, .bf16⟩
  | .local _ .vmem, ⟨12, _⟩ => ⟨S1x4096, .f32⟩
  | .local _ .vmem, ⟨13, _⟩ => ⟨S4x256x1024, .bf16⟩
  | .local _ .vmem, ⟨14, _⟩ => ⟨S1024x1024, .bf16⟩
  | .local _ .vmem, ⟨15, _⟩ => ⟨S1x1024, .f32⟩
  | .local _ .vmem, ⟨16, _⟩ => ⟨S1024x4096, .bf16⟩
  | .local _ .vmem, ⟨17, _⟩ => ⟨S4096x1024, .bf16⟩
  | .local _ .vmem, ⟨18, _⟩ => ⟨S1x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg14_1 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem14_1 : DmaSem sig := 20

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x4096 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4096x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== InnerRefIdeal.lean ====
abbrev S32768x1024 : Shape := ⟨2, ![32768, 1024]⟩
abbrev S32768x256 : Shape := ⟨2, ![32768, 256]⟩
abbrev S1024 : Shape := ⟨1, ![1024]⟩
abbrev S1024x4096 : Shape := ⟨2, ![1024, 4096]⟩
abbrev S4096 : Shape := ⟨1, ![4096]⟩
abbrev S256x1024 : Shape := ⟨2, ![256, 1024]⟩
abbrev S1024x1024 : Shape := ⟨2, ![1024, 1024]⟩
abbrev S4096x1024 : Shape := ⟨2, ![4096, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x4096 : Shape := ⟨2, ![32768, 4096]⟩
abbrev S1x4096 : Shape := ⟨2, ![1, 4096]⟩
abbrev S32768x4x1024 : Shape := ⟨3, ![32768, 4, 1024]⟩
abbrev S32768x1x1024 : Shape := ⟨3, ![32768, 1, 1024]⟩

abbrev nBuf : Space → Nat
  | .hbm => 90
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x256, .f32⟩
  | .hbm, ⟨2, _⟩ => ⟨S32768x256, .f32⟩
  | .hbm, ⟨3, _⟩ => ⟨S32768x256, .f32⟩
  | .hbm, ⟨4, _⟩ => ⟨S32768x256, .f32⟩
  | .hbm, ⟨5, _⟩ => ⟨S1024, .f32⟩
  | .hbm, ⟨6, _⟩ => ⟨S1024x4096, .f32⟩
  | .hbm, ⟨7, _⟩ => ⟨S4096, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S256x1024, .f32⟩
  | .hbm, ⟨12, _⟩ => ⟨S1024x1024, .f32⟩
  | .hbm, ⟨13, _⟩ => ⟨S1024, .f32⟩
  | .hbm, ⟨14, _⟩ => ⟨S1024x4096, .f32⟩
  | .hbm, ⟨15, _⟩ => ⟨S4096x1024, .f32⟩
  | .hbm, ⟨16, _⟩ => ⟨S1024, .f32⟩
  | .hbm, ⟨17, _⟩ => ⟨S32768x1024, .f32⟩
  | .hbm, ⟨18, _⟩ => ⟨S_, .f32⟩
  | .hbm, ⟨19, _⟩ => ⟨S32768, .f32⟩
  | .hbm, ⟨20, _⟩ => ⟨S32768x1, .f32⟩
  | .hbm, ⟨21, _⟩ => ⟨S_, .f32⟩
  | .hbm, ⟨22, _⟩ => ⟨S32768x1, .f32⟩
  | .hbm, ⟨23, _⟩ => ⟨S32768x1, .f32⟩
  | .hbm, ⟨24, _⟩ => ⟨S_, .f32⟩
  | .hbm, ⟨25, _⟩ => ⟨S32768x1, .f32⟩
  | .hbm, ⟨26, _⟩ => ⟨S32768x1, .f32⟩
  | .hbm, ⟨27, _⟩ => ⟨S32768x1, .f32⟩
  | .hbm, ⟨28, _⟩ => ⟨S32768x1024, .f32⟩
  | .hbm, ⟨29, _⟩ => ⟨S32768x1024, .f32⟩
  | .hbm, ⟨30, _⟩ => ⟨S1x1024, .f32⟩
  | .hbm, ⟨31, _⟩ => ⟨S32768x1024, .f32⟩
  | .hbm, ⟨32, _⟩ => ⟨S32768x1024, .f32⟩
  | .hbm, ⟨33, _⟩ => ⟨S32768x4096, .f32⟩
  | .hbm, ⟨34, _⟩ => ⟨S1x4096, .f32⟩
  | .hbm, ⟨35, _⟩ => ⟨S32768x4096, .f32⟩
  | .hbm, ⟨36, _⟩ => ⟨S32768x4096, .f32⟩
  | .hbm, ⟨37, _⟩ => ⟨S32768x4096, .f32⟩
  | .hbm, ⟨38, _⟩ => ⟨S32768x4096, .f32⟩
  | .hbm, ⟨39, _⟩ => ⟨S_, .f32⟩
  | .hbm, ⟨40, _⟩ => ⟨S32768x4096, .f32⟩
  | .hbm, ⟨41, _⟩ => ⟨S32768x4096, .f32⟩
  | .hbm, ⟨42, _⟩ => ⟨S_, .f32⟩
  | .hbm, ⟨43, _⟩ => ⟨S32768x4096, .f32⟩
  | .hbm, ⟨44, _⟩ => ⟨S32768x4096, .f32⟩
  | .hbm, ⟨45, _⟩ => ⟨S32768x4x1024, .f32⟩
  | .hbm, ⟨46, _⟩ => ⟨S32768x1x1024, .f32⟩
  | .hbm, ⟨47, _⟩ => ⟨S32768x1024, .f32⟩
  | .hbm, ⟨48, _⟩ => ⟨S32768x1024, .f32⟩
  | .hbm, ⟨49, _⟩ => ⟨S32768x1024, .f32⟩
  | .hbm, ⟨50, _⟩ => ⟨S32768x1x1024, .f32⟩
  | .hbm, ⟨51, _⟩ => ⟨S32768x1024, .f32⟩
  | .hbm, ⟨52, _⟩ => ⟨S32768x1024, .f32⟩
  | .hbm, ⟨53, _⟩ => ⟨S32768x1024, .f32⟩
  | .hbm, ⟨54, _⟩ => ⟨S32768x1024, .f32⟩
  | .hbm, ⟨55, _⟩ => ⟨S32768x1x1024, .f32⟩
  | .hbm, ⟨56, _⟩ => ⟨S32768x1024, .f32⟩
  | .hbm, ⟨57, _⟩ => ⟨S32768x1024, .f32⟩
  | .hbm, ⟨58, _⟩ => ⟨S32768x1024, .f32⟩
  | .hbm, ⟨59, _⟩ => ⟨S32768x1024, .f32⟩
  | .hbm, ⟨60, _⟩ => ⟨S32768x1x1024, .f32⟩
  | .hbm, ⟨61, _⟩ => ⟨S32768x1024, .f32⟩
  | .hbm, ⟨62, _⟩ => ⟨S32768x1024, .f32⟩
  | .hbm, ⟨63, _⟩ => ⟨S32768x1024, .f32⟩
  | .hbm, ⟨64, _⟩ => ⟨S32768x1024, .f32⟩
  | .hbm, ⟨65, _⟩ => ⟨S32768x1024, .f32⟩
  | .hbm, ⟨66, _⟩ => ⟨S32768x1024, .f32⟩
  | .hbm, ⟨67, _⟩ => ⟨S32768x1024, .f32⟩
  | .hbm, ⟨68, _⟩ => ⟨S_, .f32⟩
  | .hbm, ⟨69, _⟩ => ⟨S32768, .f32⟩
  | .hbm, ⟨70, _⟩ => ⟨S32768x1, .f32⟩
  | .hbm, ⟨71, _⟩ => ⟨S_, .f32⟩
  | .hbm, ⟨72, _⟩ => ⟨S32768x1, .f32⟩
  | .hbm, ⟨73, _⟩ => ⟨S32768x1, .f32⟩
  | .hbm, ⟨74, _⟩ => ⟨S_, .f32⟩
  | .hbm, ⟨75, _⟩ => ⟨S32768x1, .f32⟩
  | .hbm, ⟨76, _⟩ => ⟨S32768x1, .f32⟩
  | .hbm, ⟨77, _⟩ => ⟨S32768x1, .f32⟩
  | .hbm, ⟨78, _⟩ => ⟨S32768x1024, .f32⟩
  | .hbm, ⟨79, _⟩ => ⟨S32768x1024, .f32⟩
  | .hbm, ⟨80, _⟩ => ⟨S1x1024, .f32⟩
  | .hbm, ⟨81, _⟩ => ⟨S32768x1024, .f32⟩
  | .hbm, ⟨82, _⟩ => ⟨S32768x1024, .f32⟩
  | .hbm, ⟨83, _⟩ => ⟨S32768x4096, .f32⟩
  | .hbm, ⟨84, _⟩ => ⟨S_, .f32⟩
  | .hbm, ⟨85, _⟩ => ⟨S32768x4096, .f32⟩
  | .hbm, ⟨86, _⟩ => ⟨S32768x4096, .f32⟩
  | .hbm, ⟨87, _⟩ => ⟨S32768x4096, .f32⟩
  | .hbm, ⟨88, _⟩ => ⟨S32768x1024, .f32⟩
  | .hbm, ⟨89, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_cst : Ref sig .tc := ⟨.hbm, 18, rfl⟩
abbrev main_v1 : Ref sig .tc := ⟨.hbm, 19, rfl⟩
abbrev main_v2 : Ref sig .tc := ⟨.hbm, 20, rfl⟩
abbrev main_cst_0 : Ref sig .tc := ⟨.hbm, 21, rfl⟩
abbrev main_v3 : Ref sig .tc := ⟨.hbm, 22, rfl⟩
abbrev main_v4 : Ref sig .tc := ⟨.hbm, 23, rfl⟩
abbrev main_cst_1 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_2 : Ref sig .tc := ⟨.hbm, 39, rfl⟩
abbrev main_v19 : Ref sig .tc := ⟨.hbm, 40, rfl⟩
abbrev main_v20 : Ref sig .tc := ⟨.hbm, 41, rfl⟩
abbrev main_cst_3 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_4 : Ref sig .tc := ⟨.hbm, 68, rfl⟩
abbrev main_v46 : Ref sig .tc := ⟨.hbm, 69, rfl⟩
abbrev main_v47 : Ref sig .tc := ⟨.hbm, 70, rfl⟩
abbrev main_cst_5 : Ref sig .tc := ⟨.hbm, 71, rfl⟩
abbrev main_v48 : Ref sig .tc := ⟨.hbm, 72, rfl⟩
abbrev main_v49 : Ref sig .tc := ⟨.hbm, 73, rfl⟩
abbrev main_cst_6 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_7 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩

abbrev nD : Nat := 1
abbrev τ : Topo := Topo.v7x

variable {F : FTy → Type} [FloatOps F]
-- ==== Proof.Rows.lean ====
module

public import Idealize.ShloMosaic.Lib.Pointwise
public import Idealize.ShloMosaic.PureOps.Ideal.Laws

@[expose] public section

noncomputable section

/-! The formulas of one row of the layer over the extended reals: normalization, a gated branch, the merged
    branches, the channel mixer. Both the kernel's blocks and the references are read as these. -/

namespace Rows

open Idealize.ShloMosaic

/-- Column `l` of the group of 1024 columns that starts at column `o`, out of 4096. -/
def slot (o : Nat) (ho : o < 3073) (l : Fin 1024) : Fin 4096 := ⟨o + l.val, by have := l.isLt; omega⟩

/-- A row normalized by the root of its mean square plus the small constant, times the gain: `d` is the row's length
    as a number. -/
def rms {n : Nat} (d : EReal) (x g : Fin n → EReal) (j : Fin n) : EReal :=
  x j * Ideal.rsqrt (Ideal.div (∑ k, x k * x k) d + Ideal.ofBits .f32 0x358637BD#32) * g j

/-- The number 1024, as the programs write it. -/
def d1024 : EReal := Ideal.ofBits .f32 0x44800000#32

/-- One branch at one output channel: the sigmoid gate of the normalized row times the branch's projection. -/
def branch (h wg : Fin 1024 → EReal) (b : EReal) (y w : Fin 256 → EReal) : EReal :=
  Ideal.logistic ((∑ k, h k * wg k) + b) * ∑ k, y k * w k

/-- The row after the merge of the four branches, at channel `j`. -/
def mid (x : Fin 1024 → EReal) (ya yb yc yd : Fin 256 → EReal) (g : Fin 1024 → EReal)
    (wg : Fin 1024 → Fin 4096 → EReal) (bg : Fin 4096 → EReal) (wa wb wc wd : Fin 256 → Fin 1024 → EReal)
    (wo : Fin 1024 → Fin 1024 → EReal) (j : Fin 1024) : EReal :=
  x j + ∑ l, (branch (rms d1024 x g) (fun k => wg k (slot 0 (by decide) l)) (bg (slot 0 (by decide) l)) ya (fun k => wa k l)
    + branch (rms d1024 x g) (fun k => wg k (slot 1024 (by decide) l)) (bg (slot 1024 (by decide) l)) yb (fun k => wb k l)
    + branch (rms d1024 x g) (fun k => wg k (slot 2048 (by decide) l)) (bg (slot 2048 (by decide) l)) yc (fun k => wc k l)
    + branch (rms d1024 x g) (fun k => wg k (slot 3072 (by decide) l)) (bg (slot 3072 (by decide) l)) yd (fun k => wd k l)) * wo l j

/-- One hidden channel of the channel mixer: the squared positive part of a product. -/
def hid (h w : Fin 1024 → EReal) : EReal := max (∑ k, h k * w k) 0 * max (∑ k, h k * w k) 0

/-- The row after the channel mixer, at channel `j`. -/
def ffn (x g : Fin 1024 → EReal) (w1 : Fin 1024 → Fin 4096 → EReal) (w2 : Fin 4096 → Fin 1024 → EReal) (j : Fin 1024) : EReal :=
  x j + ∑ l : Fin 4096, hid (rms d1024 x g) (fun k => w1 k l) * w2 l j

/-- The channel mixer's sum over 4096 hidden channels, taken in four groups of 1024 one after the other. -/
theorem ffn_groups (x g : Fin 1024 → EReal) (w1 : Fin 1024 → Fin 4096 → EReal) (w2 : Fin 4096 → Fin 1024 → EReal) (j : Fin 1024) :
    ffn x g w1 w2 j = x j
      + (∑ l, hid (rms d1024 x g) (fun k => w1 k (slot 0 (by decide) l)) * w2 (slot 0 (by decide) l) j)
      + (∑ l, hid (rms d1024 x g) (fun k => w1 k (slot 1024 (by decide) l)) * w2 (slot 1024 (by decide) l) j)
      + (∑ l, hid (rms d1024 x g) (fun k => w1 k (slot 2048 (by decide) l)) * w2 (slot 2048 (by decide) l) j)
      + (∑ l, hid (rms d1024 x g) (fun k => w1 k (slot 3072 (by decide) l)) * w2 (slot 3072 (by decide) l) j) := by
  unfold ffn
  rw [Fin.sum_univ_tiles 4 1024 rfl (fun l => hid (rms d1024 x g) (fun k => w1 k l) * w2 l j)]
  simp only [Fin.sum_univ_four, ← add_assoc]
  rfl

end Rows

end
-- ==== Proof.MergePure.lean ====
module

public import proofs.«01_k».proof.Proof.Rows
public import proofs.«01_k».proof.Proof.Gen.MergeIdeal.Skeleton

@[expose] public section

set_option maxRecDepth 16384

noncomputable section

namespace Cert.MergeIdeal.Pure

open Cert.MergeIdeal Cert.MergeIdeal.Gen Idealize.ShloMosaic Idealize.ShloMosaic.TcCoe Idealize.SL.Sem

/-- The kernel's first normalization at row `r`, channel `j`. -/
theorem pay2_apply (v0 : FVec Ideal S512x1024 .f32) (v1 : FVec Ideal S1x1024 .f32) (r : Fin 512) (j : Fin 1024) :
    k0_pay2 (F := Ideal) v0 v1 (ix2 r j) = Rows.rms Rows.d1024 (fun k => v0 (ix2 r k)) (fun k => v1 (ix2 0 k)) j := by
  pointwise [k0_pay2]
  rfl

/-- The kernel's second normalization. -/
theorem pay8_apply (v0 : FVec Ideal S512x1024 .f32) (v1 : FVec Ideal S1x1024 .f32) (r : Fin 512) (j : Fin 1024) :
    k0_pay8 (F := Ideal) v0 v1 (ix2 r j) = Rows.rms Rows.d1024 (fun k => v0 (ix2 r k)) (fun k => v1 (ix2 0 k)) j := by
  pointwise [k0_pay8]
  rfl

/-- The kernel's last normalization. -/
theorem pay1_apply (v0 : FVec Ideal S512x1024 .f32) (v1 : FVec Ideal S1x1024 .f32) (r : Fin 512) (j : Fin 1024) :
    k0_pay1 (F := Ideal) v0 v1 (ix2 r j) = Rows.rms Rows.d1024 (fun k => v0 (ix2 r k)) (fun k => v1 (ix2 0 k)) j := by
  pointwise [k0_pay1]
  rfl

/-- The four branches merged, projected and added to the row, as the kernel stores them in its scratch. -/
theorem pay7_apply (v0 : FVec Ideal S512x1024 .f32) (v1 : FVec Ideal S1x1024 .f32)
    (v17 v32 v47 v62 : FVec Ideal S1024x1024 .bf16) (v20 v35 v50 v65 : FVec Ideal S1x1024 .f32)
    (v25 v40 v55 v70 : FVec Ideal S512x256 .f32) (v27 v42 v57 v72 : FVec Ideal S1x256x1024 .bf16)
    (v78 : FVec Ideal S1024x1024 .bf16) (r : Fin 512) (j : Fin 1024) :
    k0_pay7 (F := Ideal) v0
        (k0_pay5 (k0_pay2 v0 v1) (k0_pay3 v0 v1 v17 v20 v25 v27) (k0_pay4 v0 v1 v32) v35 v40 v42 v47 v50 v55 v57)
        (k0_pay6 (k0_pay2 v0 v1) v62 v65) v70 v72 v78 (ix2 r j)
      = v0 (ix2 r j) + ∑ l : Fin 1024,
          (Rows.branch (Rows.rms Rows.d1024 (fun k => v0 (ix2 r k)) (fun k => v1 (ix2 0 k))) (fun k => v17 (ix2 k l)) (v20 (ix2 0 l)) (fun k => v25 (ix2 r k)) (fun k => v27 (ix3 0 k l))
          + Rows.branch (Rows.rms Rows.d1024 (fun k => v0 (ix2 r k)) (fun k => v1 (ix2 0 k))) (fun k => v32 (ix2 k l)) (v35 (ix2 0 l)) (fun k => v40 (ix2 r k)) (fun k => v42 (ix3 0 k l))
          + Rows.branch (Rows.rms Rows.d1024 (fun k => v0 (ix2 r k)) (fun k => v1 (ix2 0 k))) (fun k => v47 (ix2 k l)) (v50 (ix2 0 l)) (fun k => v55 (ix2 r k)) (fun k => v57 (ix3 0 k l))
          + Rows.branch (Rows.rms Rows.d1024 (fun k => v0 (ix2 r k)) (fun k => v1 (ix2 0 k))) (fun k => v62 (ix2 k l)) (v65 (ix2 0 l)) (fun k => v70 (ix2 r k)) (fun k => v72 (ix3 0 k l)))
          * v78 (ix2 l j) := by
  pointwise [k0_pay7, k0_pay5, k0_pay6, k0_pay3, k0_pay4, pay2_apply]
  rfl

/-- The channel mixer over four groups of hidden channels, as the kernel accumulates it. -/
theorem pay10_apply (x : FVec Ideal S512x1024 .f32) (g : FVec Ideal S1x1024 .f32)
    (a0 a1 a2 a3 b0 b1 b2 b3 : FVec Ideal S1024x1024 .bf16) (r : Fin 512) (j : Fin 1024) :
    k0_pay10 (F := Ideal) x (k0_pay8 x g) (k0_pay9 x g a0) b0 a1 b1 a2 b2 a3 b3 (ix2 r j)
      = x (ix2 r j)
        + (∑ l : Fin 1024, Rows.hid (Rows.rms Rows.d1024 (fun k => x (ix2 r k)) (fun k => g (ix2 0 k))) (fun k => a0 (ix2 k l)) * b0 (ix2 l j))
        + (∑ l : Fin 1024, Rows.hid (Rows.rms Rows.d1024 (fun k => x (ix2 r k)) (fun k => g (ix2 0 k))) (fun k => a1 (ix2 k l)) * b1 (ix2 l j))
        + (∑ l : Fin 1024, Rows.hid (Rows.rms Rows.d1024 (fun k => x (ix2 r k)) (fun k => g (ix2 0 k))) (fun k => a2 (ix2 k l)) * b2 (ix2 l j))
        + (∑ l : Fin 1024, Rows.hid (Rows.rms Rows.d1024 (fun k => x (ix2 r k)) (fun k => g (ix2 0 k))) (fun k => a3 (ix2 k l)) * b3 (ix2 l j)) := by
  pointwise [k0_pay10, k0_pay9, pay8_apply]
  rfl

/-- The merge of the branches, from what its operands hold at one row. -/
theorem pay7_row {v0 : FVec Ideal S512x1024 .f32} {v1 : FVec Ideal S1x1024 .f32}
    {v17 v32 v47 v62 : FVec Ideal S1024x1024 .bf16} {v20 v35 v50 v65 : FVec Ideal S1x1024 .f32}
    {v25 v40 v55 v70 : FVec Ideal S512x256 .f32} {v27 v42 v57 v72 : FVec Ideal S1x256x1024 .bf16}
    {v78 : FVec Ideal S1024x1024 .bf16} {r : Fin 512}
    {x : Fin 1024 → EReal} {ya yb yc yd : Fin 256 → EReal} {g : Fin 1024 → EReal}
    {wg : Fin 1024 → Fin 4096 → EReal} {bg : Fin 4096 → EReal} {wa wb wc wd : Fin 256 → Fin 1024 → EReal}
    {wo : Fin 1024 → Fin 1024 → EReal}
    (hx : ∀ k, v0 (ix2 r k) = x k) (hg : ∀ k, v1 (ix2 0 k) = g k)
    (hw0 : ∀ k l, v17 (ix2 k l) = wg k (Rows.slot 0 (by decide) l)) (hw1 : ∀ k l, v32 (ix2 k l) = wg k (Rows.slot 1024 (by decide) l))
    (hw2 : ∀ k l, v47 (ix2 k l) = wg k (Rows.slot 2048 (by decide) l)) (hw3 : ∀ k l, v62 (ix2 k l) = wg k (Rows.slot 3072 (by decide) l))
    (hb0 : ∀ l, v20 (ix2 0 l) = bg (Rows.slot 0 (by decide) l)) (hb1 : ∀ l, v35 (ix2 0 l) = bg (Rows.slot 1024 (by decide) l))
    (hb2 : ∀ l, v50 (ix2 0 l) = bg (Rows.slot 2048 (by decide) l)) (hb3 : ∀ l, v65 (ix2 0 l) = bg (Rows.slot 3072 (by decide) l))
    (hya : ∀ k, v25 (ix2 r k) = ya k) (hyb : ∀ k, v40 (ix2 r k) = yb k) (hyc : ∀ k, v55 (ix2 r k) = yc k) (hyd : ∀ k, v70 (ix2 r k) = yd k)
    (hwa : ∀ k l, v27 (ix3 0 k l) = wa k l) (hwb : ∀ k l, v42 (ix3 0 k l) = wb k l) (hwc : ∀ k l, v57 (ix3 0 k l) = wc k l)
    (hwd : ∀ k l, v72 (ix3 0 k l) = wd k l) (hwo : ∀ l j, v78 (ix2 l j) = wo l j) (j : Fin 1024) :
    k0_pay7 (F := Ideal) v0
        (k0_pay5 (k0_pay2 v0 v1) (k0_pay3 v0 v1 v17 v20 v25 v27) (k0_pay4 v0 v1 v32) v35 v40 v42 v47 v50 v55 v57)
        (k0_pay6 (k0_pay2 v0 v1) v62 v65) v70 v72 v78 (ix2 r j)
      = Rows.mid x ya yb yc yd g wg bg wa wb wc wd wo j := by
  rw [pay7_apply]
  simp only [hx, hg, hw0, hw1, hw2, hw3, hb0, hb1, hb2, hb3, hya, hyb, hyc, hyd, hwa, hwb, hwc, hwd, hwo]
  rfl

/-- The block's row after the channel mixer, from the merged row and what the channel mixer's operands hold. -/
theorem ffn_row {M : FVec Ideal S512x1024 .f32} {v86 : FVec Ideal S1x1024 .f32}
    {a0 a1 a2 a3 b0 b1 b2 b3 : FVec Ideal S1024x1024 .bf16} {r : Fin 512}
    {x g : Fin 1024 → EReal} {w1 : Fin 1024 → Fin 4096 → EReal} {w2 : Fin 4096 → Fin 1024 → EReal}
    (hx : ∀ k, M (ix2 r k) = x k) (hg : ∀ k, v86 (ix2 0 k) = g k)
    (ha0 : ∀ k l, a0 (ix2 k l) = w1 k (Rows.slot 0 (by decide) l)) (ha1 : ∀ k l, a1 (ix2 k l) = w1 k (Rows.slot 1024 (by decide) l))
    (ha2 : ∀ k l, a2 (ix2 k l) = w1 k (Rows.slot 2048 (by decide) l)) (ha3 : ∀ k l, a3 (ix2 k l) = w1 k (Rows.slot 3072 (by decide) l))
    (hb0 : ∀ l j, b0 (ix2 l j) = w2 (Rows.slot 0 (by decide) l) j) (hb1 : ∀ l j, b1 (ix2 l j) = w2 (Rows.slot 1024 (by decide) l) j)
    (hb2 : ∀ l j, b2 (ix2 l j) = w2 (Rows.slot 2048 (by decide) l) j) (hb3 : ∀ l j, b3 (ix2 l j) = w2 (Rows.slot 3072 (by decide) l) j)
    (j : Fin 1024) :
    k0_pay10 (F := Ideal) M (k0_pay8 M v86) (k0_pay9 M v86 a0) b0 a1 b1 a2 b2 a3 b3 (ix2 r j) = Rows.ffn x g w1 w2 j := by
  simp only [pay10_apply, hx, hg, ha0, ha1, ha2, ha3, hb0, hb1, hb2, hb3, ← Rows.ffn_groups]

/-- The block's row of the result, from the merged row and what the channel mixer's operands hold. -/
theorem out_row {M : FVec Ideal S512x1024 .f32} {v86 : FVec Ideal S1x1024 .f32}
    {a0 a1 a2 a3 b0 b1 b2 b3 : FVec Ideal S1024x1024 .bf16} {vf : FVec Ideal S1x1024 .f32} {r : Fin 512}
    {x g : Fin 1024 → EReal} {w1 : Fin 1024 → Fin 4096 → EReal} {w2 : Fin 4096 → Fin 1024 → EReal} {gf : Fin 1024 → EReal}
    (hx : ∀ k, M (ix2 r k) = x k) (hg : ∀ k, v86 (ix2 0 k) = g k)
    (ha0 : ∀ k l, a0 (ix2 k l) = w1 k (Rows.slot 0 (by decide) l)) (ha1 : ∀ k l, a1 (ix2 k l) = w1 k (Rows.slot 1024 (by decide) l))
    (ha2 : ∀ k l, a2 (ix2 k l) = w1 k (Rows.slot 2048 (by decide) l)) (ha3 : ∀ k l, a3 (ix2 k l) = w1 k (Rows.slot 3072 (by decide) l))
    (hb0 : ∀ l j, b0 (ix2 l j) = w2 (Rows.slot 0 (by decide) l) j) (hb1 : ∀ l j, b1 (ix2 l j) = w2 (Rows.slot 1024 (by decide) l) j)
    (hb2 : ∀ l j, b2 (ix2 l j) = w2 (Rows.slot 2048 (by decide) l) j) (hb3 : ∀ l j, b3 (ix2 l j) = w2 (Rows.slot 3072 (by decide) l) j)
    (hf : ∀ k, vf (ix2 0 k) = gf k) (j : Fin 1024) :
    k0_pay1 (F := Ideal) (k0_pay10 M (k0_pay8 M v86) (k0_pay9 M v86 a0) b0 a1 b1 a2 b2 a3 b3) vf (ix2 r j)
      = Rows.rms Rows.d1024 (Rows.ffn x g w1 w2) gf j := by
  rw [pay1_apply]
  simp only [ffn_row hx hg ha0 ha1 ha2 ha3 hb0 hb1 hb2 hb3, hf]

end Cert.MergeIdeal.Pure

end
-- ==== Proof.MergeFinal.lean ====
module

public import proofs.«01_k».proof.Proof.MergePure
public import proofs.«01_k».proof.Proof.Gen.MergeIdeal.Value
public import Idealize.ShloMosaic.Lib.Pipeline.ValueKit
public import Idealize.ShloMosaic.Lib.Claim
public import Idealize.ShloMosaic.Lib.StableHlo.ReadAt

@[expose] public section

set_option maxRecDepth 16384

noncomputable section

namespace Cert.MergeIdeal.Final

open Cert.MergeIdeal Cert.MergeIdeal.Gen Cert.MergeIdeal.Pure Idealize.ShloMosaic Idealize.ShloMosaic.TcCoe Idealize.SL.Sem
open Idealize.ShloMosaic.Pipeline (Dat)

variable (m : (ℓ : Loc nD τ sig) → Buf (Elt Ideal) ℓ)

/-- Every window's block index at every grid point. -/
theorem idx : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![0, 0]
    ∧ win0_6.index t = ![0, 0]
    ∧ win0_7.index t = ![0, 0]
    ∧ win0_8.index t = ![0, 0, 0]
    ∧ win0_9.index t = ![0, 0]
    ∧ win0_10.index t = ![0, 0]
    ∧ win0_11.index t = ![0, 0]
    ∧ win0_12.index t = ![0, 0]
    ∧ win0_13.index t = ![0, 0]
    ∧ win0_14.index t = ![t.val, 0] :=
  (by decide +kernel : ∀ t : Fin grid0.N, _)

/-- Window 5's block at every point is the whole of the host's operand, read at an index of argument 5. -/
theorem blk5 (c : Dev nD) (t : Fin cfg0.N) (k : Fin 1024) :
    (iblk m c 5 t : FVec Ideal S1x1024 .f32) (ix2 0 k) = (m ((c : Thread nD τ).loc main_arg5) : FVec Ideal S1024 .f32) (ix1 k) := by
  have h : (iblk m c 5 t : FVec Ideal S1x1024 .f32) (ix2 0 k) = (V m c main_v6 : FVec Ideal S1x1024 .f32) (ix2 0 k) := by blk_ext [iblk, idx t]
  rw [h]
  unfold V
  after_reads_at

/-- Window 6's block at every point is the whole of the host's operand, read at an index of argument 6. -/
theorem blk6 (c : Dev nD) (t : Fin cfg0.N) (k : Fin 1024) (l : Fin 4096) :
    (iblk m c 6 t : FVec Ideal S1024x4096 .bf16) (ix2 k l) = (m ((c : Thread nD τ).loc main_arg6) : FVec Ideal S1024x4096 .f32) (ix2 k l) := by
  have h : (iblk m c 6 t : FVec Ideal S1024x4096 .bf16) (ix2 k l) = (V m c main_v7 : FVec Ideal S1024x4096 .bf16) (ix2 k l) := by blk_ext [iblk, idx t]
  rw [h]
  unfold V
  after_reads_at

/-- Window 7's block at every point is the whole of the host's operand, read at an index of argument 7. -/
theorem blk7 (c : Dev nD) (t : Fin cfg0.N) (k : Fin 4096) :
    (iblk m c 7 t : FVec Ideal S1x4096 .f32) (ix2 0 k) = (m ((c : Thread nD τ).loc main_arg7) : FVec Ideal S4096 .f32) (ix1 k) := by
  have h : (iblk m c 7 t : FVec Ideal S1x4096 .f32) (ix2 0 k) = (V m c main_v8 : FVec Ideal S1x4096 .f32) (ix2 0 k) := by blk_ext [iblk, idx t]
  rw [h]
  unfold V
  after_reads_at

/-- Window 9's block at every point is the whole of the host's operand, read at an index of argument 12. -/
theorem blk9 (c : Dev nD) (t : Fin cfg0.N) (k : Fin 1024) (l : Fin 1024) :
    (iblk m c 9 t : FVec Ideal S1024x1024 .bf16) (ix2 k l) = (m ((c : Thread nD τ).loc main_arg12) : FVec Ideal S1024x1024 .f32) (ix2 k l) := by
  have h : (iblk m c 9 t : FVec Ideal S1024x1024 .bf16) (ix2 k l) = (V m c main_v9 : FVec Ideal S1024x1024 .bf16) (ix2 k l) := by blk_ext [iblk, idx t]
  rw [h]
  unfold V
  after_reads_at

/-- Window 10's block at every point is the whole of the host's operand, read at an index of argument 13. -/
theorem blk10 (c : Dev nD) (t : Fin cfg0.N) (k : Fin 1024) :
    (iblk m c 10 t : FVec Ideal S1x1024 .f32) (ix2 0 k) = (m ((c : Thread nD τ).loc main_arg13) : FVec Ideal S1024 .f32) (ix1 k) := by
  have h : (iblk m c 10 t : FVec Ideal S1x1024 .f32) (ix2 0 k) = (V m c main_v10 : FVec Ideal S1x1024 .f32) (ix2 0 k) := by blk_ext [iblk, idx t]
  rw [h]
  unfold V
  after_reads_at

/-- Window 11's block at every point is the whole of the host's operand, read at an index of argument 14. -/
theorem blk11 (c : Dev nD) (t : Fin cfg0.N) (k : Fin 1024) (l : Fin 4096) :
    (iblk m c 11 t : FVec Ideal S1024x4096 .bf16) (ix2 k l) = (m ((c : Thread nD τ).loc main_arg14) : FVec Ideal S1024x4096 .f32) (ix2 k l) := by
  have h : (iblk m c 11 t : FVec Ideal S1024x4096 .bf16) (ix2 k l) = (V m c main_v11 : FVec Ideal S1024x4096 .bf16) (ix2 k l) := by blk_ext [iblk, idx t]
  rw [h]
  unfold V
  after_reads_at

/-- Window 12's block at every point is the whole of the host's operand, read at an index of argument 15. -/
theorem blk12 (c : Dev nD) (t : Fin cfg0.N) (k : Fin 4096) (l : Fin 1024) :
    (iblk m c 12 t : FVec Ideal S4096x1024 .bf16) (ix2 k l) = (m ((c : Thread nD τ).loc main_arg15) : FVec Ideal S4096x1024 .f32) (ix2 k l) := by
  have h : (iblk m c 12 t : FVec Ideal S4096x1024 .bf16) (ix2 k l) = (V m c main_v12 : FVec Ideal S4096x1024 .bf16) (ix2 k l) := by blk_ext [iblk, idx t]
  rw [h]
  unfold V
  after_reads_at

/-- Window 13's block at every point is the whole of the host's operand, read at an index of argument 16. -/
theorem blk13 (c : Dev nD) (t : Fin cfg0.N) (k : Fin 1024) :
    (iblk m c 13 t : FVec Ideal S1x1024 .f32) (ix2 0 k) = (m ((c : Thread nD τ).loc main_arg16) : FVec Ideal S1024 .f32) (ix1 k) := by
  have h : (iblk m c 13 t : FVec Ideal S1x1024 .f32) (ix2 0 k) = (V m c main_v13 : FVec Ideal S1x1024 .f32) (ix2 0 k) := by blk_ext [iblk, idx t]
  rw [h]
  unfold V
  after_reads_at

/-- Branch 0's projection in the stacked operand of window 8. -/
theorem blk8_0 (c : Dev nD) (t : Fin cfg0.N) (k : Fin 256) (l : Fin 1024) :
    (iblk m c 8 t : FVec Ideal S4x256x1024 .bf16) (ix3 0 k l)
      = (m ((c : Thread nD τ).loc main_arg8) : FVec Ideal S256x1024 .f32) (ix2 k l) := by
  have h : (iblk m c 8 t : FVec Ideal S4x256x1024 .bf16) (ix3 0 k l) = (V m c main_v5 : FVec Ideal S4x256x1024 .bf16) (ix3 0 k l) := by
    blk_ext [iblk, idx t]
  rw [h]
  unfold V
  after_reads_at
  after_reads_at

/-- Branch 1's projection in the stacked operand of window 8. -/
theorem blk8_1 (c : Dev nD) (t : Fin cfg0.N) (k : Fin 256) (l : Fin 1024) :
    (iblk m c 8 t : FVec Ideal S4x256x1024 .bf16) (ix3 1 k l)
      = (m ((c : Thread nD τ).loc main_arg9) : FVec Ideal S256x1024 .f32) (ix2 k l) := by
  have h : (iblk m c 8 t : FVec Ideal S4x256x1024 .bf16) (ix3 1 k l) = (V m c main_v5 : FVec Ideal S4x256x1024 .bf16) (ix3 1 k l) := by
    blk_ext [iblk, idx t]
  rw [h]
  unfold V
  after_reads_at
  after_reads_at

/-- Branch 2's projection in the stacked operand of window 8. -/
theorem blk8_2 (c : Dev nD) (t : Fin cfg0.N) (k : Fin 256) (l : Fin 1024) :
    (iblk m c 8 t : FVec Ideal S4x256x1024 .bf16) (ix3 2 k l)
      = (m ((c : Thread nD τ).loc main_arg10) : FVec Ideal S256x1024 .f32) (ix2 k l) := by
  have h : (iblk m c 8 t : FVec Ideal S4x256x1024 .bf16) (ix3 2 k l) = (V m c main_v5 : FVec Ideal S4x256x1024 .bf16) (ix3 2 k l) := by
    blk_ext [iblk, idx t]
  rw [h]
  unfold V
  after_reads_at
  after_reads_at

/-- Branch 3's projection in the stacked operand of window 8. -/
theorem blk8_3 (c : Dev nD) (t : Fin cfg0.N) (k : Fin 256) (l : Fin 1024) :
    (iblk m c 8 t : FVec Ideal S4x256x1024 .bf16) (ix3 3 k l)
      = (m ((c : Thread nD τ).loc main_arg11) : FVec Ideal S256x1024 .f32) (ix2 k l) := by
  have h : (iblk m c 8 t : FVec Ideal S4x256x1024 .bf16) (ix3 3 k l) = (V m c main_v5 : FVec Ideal S4x256x1024 .bf16) (ix3 3 k l) := by
    blk_ext [iblk, idx t]
  rw [h]
  unfold V
  after_reads_at
  after_reads_at

/-- Window 0's block at point `t` is rows `512 t` to `512 t + 511` of argument 0. -/
theorem blk0 (c : Dev nD) (t : Fin cfg0.N) (r : Fin 512) (i : Fin 32768) (hi : i.val = 512 * t.val + r.val) (k : Fin 1024) :
    (iblk m c 0 t : FVec Ideal S512x1024 .f32) (ix2 r k) = (m ((c : Thread nD τ).loc main_arg0) : FVec Ideal S32768x1024 .f32) (ix2 i k) := by
  blk_ext [iblk, V, idx t]

/-- Window 1's block at point `t` is rows `512 t` to `512 t + 511` of argument 1. -/
theorem blk1 (c : Dev nD) (t : Fin cfg0.N) (r : Fin 512) (i : Fin 32768) (hi : i.val = 512 * t.val + r.val) (k : Fin 256) :
    (iblk m c 1 t : FVec Ideal S512x256 .f32) (ix2 r k) = (m ((c : Thread nD τ).loc main_arg1) : FVec Ideal S32768x256 .f32) (ix2 i k) := by
  blk_ext [iblk, V, idx t]

/-- Window 2's block at point `t` is rows `512 t` to `512 t + 511` of argument 2. -/
theorem blk2 (c : Dev nD) (t : Fin cfg0.N) (r : Fin 512) (i : Fin 32768) (hi : i.val = 512 * t.val + r.val) (k : Fin 256) :
    (iblk m c 2 t : FVec Ideal S512x256 .f32) (ix2 r k) = (m ((c : Thread nD τ).loc main_arg2) : FVec Ideal S32768x256 .f32) (ix2 i k) := by
  blk_ext [iblk, V, idx t]

/-- Window 3's block at point `t` is rows `512 t` to `512 t + 511` of argument 3. -/
theorem blk3 (c : Dev nD) (t : Fin cfg0.N) (r : Fin 512) (i : Fin 32768) (hi : i.val = 512 * t.val + r.val) (k : Fin 256) :
    (iblk m c 3 t : FVec Ideal S512x256 .f32) (ix2 r k) = (m ((c : Thread nD τ).loc main_arg3) : FVec Ideal S32768x256 .f32) (ix2 i k) := by
  blk_ext [iblk, V, idx t]

/-- Window 4's block at point `t` is rows `512 t` to `512 t + 511` of argument 4. -/
theorem blk4 (c : Dev nD) (t : Fin cfg0.N) (r : Fin 512) (i : Fin 32768) (hi : i.val = 512 * t.val + r.val) (k : Fin 256) :
    (iblk m c 4 t : FVec Ideal S512x256 .f32) (ix2 r k) = (m ((c : Thread nD τ).loc main_arg4) : FVec Ideal S32768x256 .f32) (ix2 i k) := by
  blk_ext [iblk, V, idx t]

/-- The result at row `i 0`, channel `i 1`, from the kernel's argument arrays: the branches merged, the channel mixer,
    the last normalization. -/
def G (x0 : FVec Ideal S32768x1024 .f32) (x1 x2 x3 x4 : FVec Ideal S32768x256 .f32) (x5 : FVec Ideal S1024 .f32)
    (x6 : FVec Ideal S1024x4096 .f32) (x7 : FVec Ideal S4096 .f32) (x8 x9 x10 x11 : FVec Ideal S256x1024 .f32)
    (x12 : FVec Ideal S1024x1024 .f32) (x13 : FVec Ideal S1024 .f32) (x14 : FVec Ideal S1024x4096 .f32)
    (x15 : FVec Ideal S4096x1024 .f32) (x16 : FVec Ideal S1024 .f32) : FVec Ideal S32768x1024 .f32 := fun i =>
  Rows.rms Rows.d1024
    (Rows.ffn
      (Rows.mid (fun k => x0 (ix2 (i 0) k)) (fun k => x1 (ix2 (i 0) k)) (fun k => x2 (ix2 (i 0) k)) (fun k => x3 (ix2 (i 0) k))
          (fun k => x4 (ix2 (i 0) k)) (fun k => x5 (ix1 k)) (fun k l => x6 (ix2 k l)) (fun l => x7 (ix1 l))
          (fun k l => x8 (ix2 k l)) (fun k l => x9 (ix2 k l)) (fun k l => x10 (ix2 k l)) (fun k l => x11 (ix2 k l))
          (fun k l => x12 (ix2 k l)))
      (fun k => x13 (ix1 k)) (fun k l => x14 (ix2 k l)) (fun k l => x15 (ix2 k l)))
    (fun k => x16 (ix1 k)) (i 1)

/-- The result array after the run. -/
theorem final (c : Dev nD) : (dats m 0 c).arrAt 14 (cfgs 0).N
    = G (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9)) (m ((c : Thread nD τ).loc main_arg10)) (m ((c : Thread nD τ).loc main_arg11))
      (m ((c : Thread nD τ).loc main_arg12)) (m ((c : Thread nD τ).loc main_arg13)) (m ((c : Thread nD τ).loc main_arg14))
      (m ((c : Thread nD τ).loc main_arg15)) (m ((c : Thread nD τ).loc main_arg16)) := by
  refine (dats m 0 c).arrAt_eq_of_covers 14 _ (by decide +kernel) fun t hf y => ?_
  blk_simp
  rw [after0_14]
  unfold outsAt0
  frame_out
  idx_vars y
  have ht : t.val < 64 := lt_of_lt_of_eq t.isLt N_0
  obtain ⟨i, hi⟩ : ∃ i : Fin 32768, i.val = 512 * t.val + y0.val := ⟨⟨512 * t.val + y0.val, by have := y0.isLt; omega⟩, rfl⟩
  have he : ((View.whole main_v14).slice (win0_14.rect t)).emb (ix2 y0 y1) = ix2 i y1 := by
    blk_ext [idx t]
  rw [he]
  unfold G
  simp only [ix2_0, ix2_1]
  apply out_row
  · apply pay7_row
    · exact blk0 m c t y0 i hi
    · exact blk5 m c t
    · intro k l; pointwise; rw [blk6]; simp only [Rows.slot, Nat.zero_add]
    · intro k l; pointwise; rw [blk6]; simp only [Rows.slot, Nat.zero_add]
    · intro k l; pointwise; rw [blk6]; simp only [Rows.slot, Nat.zero_add]
    · intro k l; pointwise; rw [blk6]; simp only [Rows.slot, Nat.zero_add]
    · intro k; pointwise; rw [blk7]; simp only [Rows.slot, Nat.zero_add]
    · intro k; pointwise; rw [blk7]; simp only [Rows.slot, Nat.zero_add]
    · intro k; pointwise; rw [blk7]; simp only [Rows.slot, Nat.zero_add]
    · intro k; pointwise; rw [blk7]; simp only [Rows.slot, Nat.zero_add]
    · exact blk1 m c t y0 i hi
    · exact blk2 m c t y0 i hi
    · exact blk3 m c t y0 i hi
    · exact blk4 m c t y0 i hi
    · intro k l; pointwise; rw [blk8_0]
    · intro k l; pointwise; rw [blk8_1]
    · intro k l; pointwise; rw [blk8_2]
    · intro k l; pointwise; rw [blk8_3]
    · exact blk9 m c t
  · exact blk10 m c t
  · intro k l; pointwise; rw [blk11]; simp only [Rows.slot, Nat.zero_add]
  · intro k l; pointwise; rw [blk11]; simp only [Rows.slot, Nat.zero_add]
  · intro k l; pointwise; rw [blk11]; simp only [Rows.slot, Nat.zero_add]
  · intro k l; pointwise; rw [blk11]; simp only [Rows.slot, Nat.zero_add]
  · intro k l; pointwise; rw [blk12]; simp only [Rows.slot, Nat.zero_add]
  · intro k l; pointwise; rw [blk12]; simp only [Rows.slot, Nat.zero_add]
  · intro k l; pointwise; rw [blk12]; simp only [Rows.slot, Nat.zero_add]
  · intro k l; pointwise; rw [blk12]; simp only [Rows.slot, Nat.zero_add]
  · exact blk13 m c t

end Cert.MergeIdeal.Final

end
-- ==== Proof.InnerPure.lean ====
module

public import proofs.«01_k».proof.Proof.MergePure
public import proofs.«01_k».proof.Proof.Gen.InnerIdeal.Skeleton

@[expose] public section

set_option maxRecDepth 16384

noncomputable section

namespace Cert.InnerIdeal.Pure

open Cert.InnerIdeal Cert.InnerIdeal.Gen Idealize.ShloMosaic

/-- What the call without the last norm stores in its scratch is what the call with it stores there. -/
theorem mid_eq (v0 : FVec Ideal S512x1024 .f32) (v1 : FVec Ideal S1x1024 .f32)
    (v17 v32 v47 v62 : FVec Ideal S1024x1024 .bf16) (v20 v35 v50 v65 : FVec Ideal S1x1024 .f32)
    (v25 v40 v55 v70 : FVec Ideal S512x256 .f32) (v27 v42 v57 v72 : FVec Ideal S1x256x1024 .bf16)
    (v78 : FVec Ideal S1024x1024 .bf16) :
    k0_pay6 (F := Ideal) v0
        (k0_pay4 (k0_pay1 v0 v1) (k0_pay2 v0 v1 v17 v20 v25 v27) (k0_pay3 v0 v1 v32) v35 v40 v42 v47 v50 v55 v57)
        (k0_pay5 (k0_pay1 v0 v1) v62 v65) v70 v72 v78
      = Cert.MergeIdeal.Gen.k0_pay7 (F := Ideal) v0
          (Cert.MergeIdeal.Gen.k0_pay5 (Cert.MergeIdeal.Gen.k0_pay2 v0 v1) (Cert.MergeIdeal.Gen.k0_pay3 v0 v1 v17 v20 v25 v27)
            (Cert.MergeIdeal.Gen.k0_pay4 v0 v1 v32) v35 v40 v42 v47 v50 v55 v57)
          (Cert.MergeIdeal.Gen.k0_pay6 (Cert.MergeIdeal.Gen.k0_pay2 v0 v1) v62 v65) v70 v72 v78 := rfl

/-- What it stores in its result block is what the call with the last norm normalizes. -/
theorem out_eq (M : FVec Ideal S512x1024 .f32) (g : FVec Ideal S1x1024 .f32)
    (a0 a1 a2 a3 b0 b1 b2 b3 : FVec Ideal S1024x1024 .bf16) :
    k0_pay9 (F := Ideal) M (k0_pay7 M g) (k0_pay8 M g a0) b0 a1 b1 a2 b2 a3 b3
      = Cert.MergeIdeal.Gen.k0_pay10 (F := Ideal) M (Cert.MergeIdeal.Gen.k0_pay8 M g) (Cert.MergeIdeal.Gen.k0_pay9 M g a0)
          b0 a1 b1 a2 b2 a3 b3 := rfl

end Cert.InnerIdeal.Pure

end
-- ==== Proof.InnerFinal.lean ====
module

public import proofs.«01_k».proof.Proof.MergeFinal
public import proofs.«01_k».proof.Proof.InnerPure
public import proofs.«01_k».proof.Proof.Gen.InnerIdeal.Value
public import Idealize.ShloMosaic.Lib.Pipeline.ValueKit
public import Idealize.ShloMosaic.Lib.Claim
public import Idealize.ShloMosaic.Lib.StableHlo.ReadAt

@[expose] public section

set_option maxRecDepth 16384

noncomputable section

namespace Cert.InnerIdeal.Final

open Cert.InnerIdeal Cert.InnerIdeal.Gen Cert.InnerIdeal.Pure Idealize.ShloMosaic Idealize.ShloMosaic.TcCoe Idealize.SL.Sem
open Idealize.ShloMosaic.Pipeline (Dat)

variable (m : (ℓ : Loc nD τ sig) → Buf (Elt Ideal) ℓ)

/-- The result window's block index at every grid point. -/
theorem idx14 : ∀ t : Fin cfg0.N, win0_14.index t = ![t.val, 0] := (by decide +kernel : ∀ t : Fin grid0.N, _)

/-! Both calls of the merge read the same blocks of the same operands: what a window's block holds was shown for the
    call with the last norm. -/

/-- The gate weights, as the block holds them. -/
theorem blk6 (c : Dev nD) (t : Fin cfg0.N) (k : Fin 1024) (l : Fin 4096) :
    (iblk m c 6 t : FVec Ideal S1024x4096 .bf16) (ix2 k l) = (m ((c : Thread nD τ).loc main_arg6) : FVec Ideal S1024x4096 .f32) (ix2 k l) :=
  Cert.MergeIdeal.Final.blk6 m c t k l

/-- The gate biases, as the block holds them. -/
theorem blk7 (c : Dev nD) (t : Fin cfg0.N) (k : Fin 4096) :
    (iblk m c 7 t : FVec Ideal S1x4096 .f32) (ix2 0 k) = (m ((c : Thread nD τ).loc main_arg7) : FVec Ideal S4096 .f32) (ix1 k) :=
  Cert.MergeIdeal.Final.blk7 m c t k

/-- Branch 0's projection, as the block holds it. -/
theorem blk8_0 (c : Dev nD) (t : Fin cfg0.N) (k : Fin 256) (l : Fin 1024) :
    (iblk m c 8 t : FVec Ideal S4x256x1024 .bf16) (ix3 0 k l)
      = (m ((c : Thread nD τ).loc main_arg8) : FVec Ideal S256x1024 .f32) (ix2 k l) :=
  Cert.MergeIdeal.Final.blk8_0 m c t k l

/-- Branch 1's projection, as the block holds it. -/
theorem blk8_1 (c : Dev nD) (t : Fin cfg0.N) (k : Fin 256) (l : Fin 1024) :
    (iblk m c 8 t : FVec Ideal S4x256x1024 .bf16) (ix3 1 k l)
      = (m ((c : Thread nD τ).loc main_arg9) : FVec Ideal S256x1024 .f32) (ix2 k l) :=
  Cert.MergeIdeal.Final.blk8_1 m c t k l

/-- Branch 2's projection, as the block holds it. -/
theorem blk8_2 (c : Dev nD) (t : Fin cfg0.N) (k : Fin 256) (l : Fin 1024) :
    (iblk m c 8 t : FVec Ideal S4x256x1024 .bf16) (ix3 2 k l)
      = (m ((c : Thread nD τ).loc main_arg10) : FVec Ideal S256x1024 .f32) (ix2 k l) :=
  Cert.MergeIdeal.Final.blk8_2 m c t k l

/-- Branch 3's projection, as the block holds it. -/
theorem blk8_3 (c : Dev nD) (t : Fin cfg0.N) (k : Fin 256) (l : Fin 1024) :
    (iblk m c 8 t : FVec Ideal S4x256x1024 .bf16) (ix3 3 k l)
      = (m ((c : Thread nD τ).loc main_arg11) : FVec Ideal S256x1024 .f32) (ix2 k l) :=
  Cert.MergeIdeal.Final.blk8_3 m c t k l

/-- The first weights of the channel mixer, as the block holds them. -/
theorem blk11 (c : Dev nD) (t : Fin cfg0.N) (k : Fin 1024) (l : Fin 4096) :
    (iblk m c 11 t : FVec Ideal S1024x4096 .bf16) (ix2 k l) = (m ((c : Thread nD τ).loc main_arg14) : FVec Ideal S1024x4096 .f32) (ix2 k l) :=
  Cert.MergeIdeal.Final.blk11 m c t k l

/-- The second weights of the channel mixer, as the block holds them. -/
theorem blk12 (c : Dev nD) (t : Fin cfg0.N) (k : Fin 4096) (l : Fin 1024) :
    (iblk m c 12 t : FVec Ideal S4096x1024 .bf16) (ix2 k l) = (m ((c : Thread nD τ).loc main_arg15) : FVec Ideal S4096x1024 .f32) (ix2 k l) :=
  Cert.MergeIdeal.Final.blk12 m c t k l

/-- The result at row `i 0`, channel `i 1`, from the kernel's argument arrays: the branches merged and the channel
    mixer, without the last normalization. -/
def G (x0 : FVec Ideal S32768x1024 .f32) (x1 x2 x3 x4 : FVec Ideal S32768x256 .f32) (x5 : FVec Ideal S1024 .f32)
    (x6 : FVec Ideal S1024x4096 .f32) (x7 : FVec Ideal S4096 .f32) (x8 x9 x10 x11 : FVec Ideal S256x1024 .f32)
    (x12 : FVec Ideal S1024x1024 .f32) (x13 : FVec Ideal S1024 .f32) (x14 : FVec Ideal S1024x4096 .f32)
    (x15 : FVec Ideal S4096x1024 .f32) : FVec Ideal S32768x1024 .f32 := fun i =>
  Rows.ffn
    (Rows.mid (fun k => x0 (ix2 (i 0) k)) (fun k => x1 (ix2 (i 0) k)) (fun k => x2 (ix2 (i 0) k)) (fun k => x3 (ix2 (i 0) k))
        (fun k => x4 (ix2 (i 0) k)) (fun k => x5 (ix1 k)) (fun k l => x6 (ix2 k l)) (fun l => x7 (ix1 l))
        (fun k l => x8 (ix2 k l)) (fun k l => x9 (ix2 k l)) (fun k l => x10 (ix2 k l)) (fun k l => x11 (ix2 k l))
        (fun k l => x12 (ix2 k l)))
    (fun k => x13 (ix1 k)) (fun k l => x14 (ix2 k l)) (fun k l => x15 (ix2 k l)) (i 1)

set_option maxHeartbeats 1000000 in
/-- The result array after the run. -/
theorem final (c : Dev nD) : (dats m 0 c).arrAt 14 (cfgs 0).N
    = G (m ((c : Thread nD τ).loc main_arg0)) (m ((c : Thread nD τ).loc main_arg1))
      (m ((c : Thread nD τ).loc main_arg2)) (m ((c : Thread nD τ).loc main_arg3))
      (m ((c : Thread nD τ).loc main_arg4)) (m ((c : Thread nD τ).loc main_arg5))
      (m ((c : Thread nD τ).loc main_arg6)) (m ((c : Thread nD τ).loc main_arg7))
      (m ((c : Thread nD τ).loc main_arg8)) (m ((c : Thread nD τ).loc main_arg9))
      (m ((c : Thread nD τ).loc main_arg10)) (m ((c : Thread nD τ).loc main_arg11))
      (m ((c : Thread nD τ).loc main_arg12)) (m ((c : Thread nD τ).loc main_arg13))
      (m ((c : Thread nD τ).loc main_arg14)) (m ((c : Thread nD τ).loc main_arg15)) := by
  refine (dats m 0 c).arrAt_eq_of_covers 14 _ (by decide +kernel) fun t hf y => ?_
  blk_simp
  rw [after0_14]
  unfold outsAt0
  frame_out
  idx_vars y
  have ht : t.val < 64 := lt_of_lt_of_eq t.isLt N_0
  obtain ⟨i, hi⟩ : ∃ i : Fin 32768, i.val = 512 * t.val + y0.val := ⟨⟨512 * t.val + y0.val, by have := y0.isLt; omega⟩, rfl⟩
  have he : ((View.whole main_v14).slice (win0_14.rect t)).emb (ix2 y0 y1) = ix2 i y1 := by
    blk_ext [idx14 t]
  rw [he]
  unfold G
  simp only [ix2_0, ix2_1]
  rw [out_eq]
  apply Cert.MergeIdeal.Pure.ffn_row
  · rw [mid_eq]
    apply Cert.MergeIdeal.Pure.pay7_row
    · exact Cert.MergeIdeal.Final.blk0 m c t y0 i hi
    · exact Cert.MergeIdeal.Final.blk5 m c t
    · intro k l; pointwise; rw [blk6]; simp only [Rows.slot, Nat.zero_add]
    · intro k l; pointwise; rw [blk6]; simp only [Rows.slot, Nat.zero_add]
    · intro k l; pointwise; rw [blk6]; simp only [Rows.slot, Nat.zero_add]
    · intro k l; pointwise; rw [blk6]; simp only [Rows.slot, Nat.zero_add]
    · intro k; pointwise; rw [blk7]; simp only [Rows.slot, Nat.zero_add]
    · intro k; pointwise; rw [blk7]; simp only [Rows.slot, Nat.zero_add]
    · intro k; pointwise; rw [blk7]; simp only [Rows.slot, Nat.zero_add]
    · intro k; pointwise; rw [blk7]; simp only [Rows.slot, Nat.zero_add]
    · exact Cert.MergeIdeal.Final.blk1 m c t y0 i hi
    · exact Cert.MergeIdeal.Final.blk2 m c t y0 i hi
    · exact Cert.MergeIdeal.Final.blk3 m c t y0 i hi
    · exact Cert.MergeIdeal.Final.blk4 m c t y0 i hi
    · intro k l; pointwise; rw [blk8_0]
    · intro k l; pointwise; rw [blk8_1]
    · intro k l; pointwise; rw [blk8_2]
    · intro k l; pointwise; rw [blk8_3]
    · exact Cert.MergeIdeal.Final.blk9 m c t
  · exact Cert.MergeIdeal.Final.blk10 m c t
  · intro k l; pointwise; rw [blk11]; simp only [Rows.slot, Nat.zero_add]
  · intro k l; pointwise; rw [blk11]; simp only [Rows.slot, Nat.zero_add]
  · intro k l; pointwise; rw [blk11]; simp only [Rows.slot, Nat.zero_add]
  · intro k l; pointwise; rw [blk11]; simp only [Rows.slot, Nat.zero_add]
  · intro k l; pointwise; rw [blk12]; simp only [Rows.slot, Nat.zero_add]
  · intro k l; pointwise; rw [blk12]; simp only [Rows.slot, Nat.zero_add]
  · intro k l; pointwise; rw [blk12]; simp only [Rows.slot, Nat.zero_add]
  · intro k l; pointwise; rw [blk12]; simp only [Rows.slot, Nat.zero_add]

end Cert.InnerIdeal.Final

end
-- ==== Proof.MergeRefPure.lean ====
module

public import proofs.«01_k».proof.Proof.Rows
public import proofs.«01_k».proof.Proof.Gen.MergeRefIdeal.Read

@[expose] public section

set_option maxRecDepth 16384

noncomputable section

namespace Cert.MergeRefIdeal.Pure

open Cert.MergeRefIdeal Cert.MergeRefIdeal.Gen Cert.MergeRefIdeal.Read Idealize.ShloMosaic Idealize.ShloMosaic.TcCoe Idealize.SL.Sem

/-- The reference's first normalization at row `r`, channel `j`. -/
theorem v12_apply (x0 : FVec Ideal S32768x1024 .f32) (x5 : FVec Ideal S1024 .f32) (r : Fin 32768) (j : Fin 1024) :
    val_main_v12 (F := Ideal) x0 x5 (ix2 r j) = Rows.rms Rows.d1024 (fun k => x0 (ix2 r k)) (fun k => x5 (ix1 k)) j := by
  pointwise [val_main_v12, val_main_v11, val_main_v10, val_main_v9, val_main_v8, val_main_v7, val_main_v6, val_main_v5,
    val_main_cst_1, val_main_v4, val_main_v3, val_main_cst_0, val_main_v2, val_main_v1, val_main_cst, val_main_v0]
  rfl

/-- The reference's gates at row `r`, branch `n`, channel `l`. -/
theorem v22_apply (x0 : FVec Ideal S32768x1024 .f32) (x5 : FVec Ideal S1024 .f32) (x6 : FVec Ideal S1024x4096 .f32)
    (x7 : FVec Ideal S4096 .f32) (r : Fin 32768) (l : Fin 4096) :
    val_main_v22 (F := Ideal) x0 x5 x6 x7 (ix2 r l)
      = Ideal.logistic ((∑ k, Rows.rms Rows.d1024 (fun k => x0 (ix2 r k)) (fun k => x5 (ix1 k)) k * x6 (ix2 k l)) + x7 (ix1 l)) := by
  pointwise [val_main_v22, val_main_v21, val_main_cst_3, val_main_v20, val_main_v19, val_main_cst_2, val_main_v18,
    val_main_v17, val_main_v16, val_main_v15, val_main_v14, val_main_v13, v12_apply]
  rfl

/-- The reference's row after the merge. -/
theorem v44_apply (x0 : FVec Ideal S32768x1024 .f32) (x1 x2 x3 x4 : FVec Ideal S32768x256 .f32) (x5 : FVec Ideal S1024 .f32)
    (x6 : FVec Ideal S1024x4096 .f32) (x7 : FVec Ideal S4096 .f32) (x8 x9 x10 x11 : FVec Ideal S256x1024 .f32)
    (x12 : FVec Ideal S1024x1024 .f32) (r : Fin 32768) (j : Fin 1024) :
    val_main_v44 (F := Ideal) x0 x1 x2 x3 x4 x5 x6 x7 x8 x9 x10 x11 x12 (ix2 r j)
      = Rows.mid (fun k => x0 (ix2 r k)) (fun k => x1 (ix2 r k)) (fun k => x2 (ix2 r k)) (fun k => x3 (ix2 r k))
          (fun k => x4 (ix2 r k)) (fun k => x5 (ix1 k)) (fun k l => x6 (ix2 k l)) (fun l => x7 (ix1 l))
          (fun k l => x8 (ix2 k l)) (fun k l => x9 (ix2 k l)) (fun k l => x10 (ix2 k l)) (fun k l => x11 (ix2 k l))
          (fun k l => x12 (ix2 k l)) j := by
  pointwise [val_main_v44, val_main_v43, val_main_v42, val_main_v41, val_main_v40, val_main_v39, val_main_v38,
    val_main_v37, val_main_v36, val_main_v35, val_main_v34, val_main_v33, val_main_v32, val_main_v31, val_main_v30,
    val_main_v29, val_main_v28, val_main_v27, val_main_v26, val_main_v25, val_main_v24, val_main_v23, v22_apply]
  simp only [Rows.mid, Rows.branch, Rows.slot, Nat.zero_add]

/-- The reference's row after the channel mixer, from the row after the merge. -/
theorem v63_apply (x0 : FVec Ideal S32768x1024 .f32) (x1 x2 x3 x4 : FVec Ideal S32768x256 .f32) (x5 : FVec Ideal S1024 .f32)
    (x6 : FVec Ideal S1024x4096 .f32) (x7 : FVec Ideal S4096 .f32) (x8 x9 x10 x11 : FVec Ideal S256x1024 .f32)
    (x12 : FVec Ideal S1024x1024 .f32) (x13 : FVec Ideal S1024 .f32) (x14 : FVec Ideal S1024x4096 .f32)
    (x15 : FVec Ideal S4096x1024 .f32) (r : Fin 32768) (j : Fin 1024) :
    val_main_v63 (F := Ideal) x0 x1 x2 x3 x4 x5 x6 x7 x8 x9 x10 x11 x12 x13 x14 x15 (ix2 r j)
      = Rows.ffn (fun k => val_main_v44 (F := Ideal) x0 x1 x2 x3 x4 x5 x6 x7 x8 x9 x10 x11 x12 (ix2 r k))
          (fun k => x13 (ix1 k)) (fun k l => x14 (ix2 k l)) (fun k l => x15 (ix2 k l)) j := by
  pointwise [val_main_v63, val_main_v62, val_main_v61, val_main_v60, val_main_v59, val_main_cst_7, val_main_v58,
    val_main_v57, val_main_v56, val_main_v55, val_main_v54, val_main_v53, val_main_v52, val_main_v51, val_main_v50,
    val_main_cst_6, val_main_v49, val_main_v48, val_main_cst_5, val_main_v47, val_main_v46, val_main_cst_4, val_main_v45]
  rfl

/-- The reference's result at row `r`, channel `j`, from the row after the channel mixer. -/
theorem v76_apply (x0 : FVec Ideal S32768x1024 .f32) (x1 x2 x3 x4 : FVec Ideal S32768x256 .f32) (x5 : FVec Ideal S1024 .f32)
    (x6 : FVec Ideal S1024x4096 .f32) (x7 : FVec Ideal S4096 .f32) (x8 x9 x10 x11 : FVec Ideal S256x1024 .f32)
    (x12 : FVec Ideal S1024x1024 .f32) (x13 : FVec Ideal S1024 .f32) (x14 : FVec Ideal S1024x4096 .f32)
    (x15 : FVec Ideal S4096x1024 .f32) (x16 : FVec Ideal S1024 .f32) (r : Fin 32768) (j : Fin 1024) :
    val_main_v76 (F := Ideal) x0 x1 x2 x3 x4 x5 x6 x7 x8 x9 x10 x11 x12 x13 x14 x15 x16 (ix2 r j)
      = Rows.rms Rows.d1024 (fun k => val_main_v63 (F := Ideal) x0 x1 x2 x3 x4 x5 x6 x7 x8 x9 x10 x11 x12 x13 x14 x15 (ix2 r k))
          (fun k => x16 (ix1 k)) j := by
  pointwise [val_main_v76, val_main_v75, val_main_v74, val_main_v73, val_main_v72, val_main_v71, val_main_v70,
    val_main_v69, val_main_cst_10, val_main_v68, val_main_v67, val_main_cst_9, val_main_v66, val_main_v65, val_main_cst_8,
    val_main_v64]
  rfl

end Cert.MergeRefIdeal.Pure

end
-- ==== Proof.InnerClaim.lean ====
module

public import proofs.«01_k».proof.Defs
public import proofs.«01_k».proof.Proof.InnerFinal
public import proofs.«01_k».proof.Proof.MergeRefPure
public import proofs.«01_k».proof.Proof.Gen.InnerRefIdeal.Run
public import proofs.«01_k».proof.Proof.Gen.InnerRefIdeal.Read
public import proofs.«01_k».proof.Proof.Gen.InnerIdeal.Frame
public import Idealize.ShloMosaic.Lib.Claim
public import Idealize.ShloMosaic.Lib.Quiescent

@[expose] public section

set_option maxRecDepth 16384

noncomputable section

namespace Cert.InnerClaim

open Idealize.ShloMosaic Idealize.SL.Sem

/-- The reference's result array is the array the kernel's result was shown to be: its lines are those of the reference
    with the last norm, up to that norm. -/
theorem ref_eq (x0 : FVec Ideal Cert.InnerIdeal.S32768x1024 .f32) (x1 x2 x3 x4 : FVec Ideal Cert.InnerIdeal.S32768x256 .f32)
    (x5 : FVec Ideal Cert.InnerIdeal.S1024 .f32) (x6 : FVec Ideal Cert.InnerIdeal.S1024x4096 .f32)
    (x7 : FVec Ideal Cert.InnerIdeal.S4096 .f32) (x8 x9 x10 x11 : FVec Ideal Cert.InnerIdeal.S256x1024 .f32)
    (x12 : FVec Ideal Cert.InnerIdeal.S1024x1024 .f32) (x13 : FVec Ideal Cert.InnerIdeal.S1024 .f32)
    (x14 : FVec Ideal Cert.InnerIdeal.S1024x4096 .f32) (x15 : FVec Ideal Cert.InnerIdeal.S4096x1024 .f32) :
    Cert.InnerRefIdeal.Read.val_main_v63 (F := Ideal) x0 x1 x2 x3 x4 x5 x6 x7 x8 x9 x10 x11 x12 x13 x14 x15
      = Cert.InnerIdeal.Final.G x0 x1 x2 x3 x4 x5 x6 x7 x8 x9 x10 x11 x12 x13 x14 x15 := by
  have h : Cert.InnerRefIdeal.Read.val_main_v63 (F := Ideal) x0 x1 x2 x3 x4 x5 x6 x7 x8 x9 x10 x11 x12 x13 x14 x15
      = Cert.MergeRefIdeal.Read.val_main_v63 (F := Ideal) x0 x1 x2 x3 x4 x5 x6 x7 x8 x9 x10 x11 x12 x13 x14 x15 := rfl
  rw [h]
  funext y
  idx_vars y
  refine (Cert.MergeRefIdeal.Pure.v63_apply ..).trans ?_
  simp only [Cert.MergeRefIdeal.Pure.v44_apply]
  rfl

/-- The kernel and the reference, read over the extended reals, end with equal results. -/
theorem algebraic : Cert.algebraic_InnerIdeal_InnerRefIdeal (hInnerIdeal := Cert.InnerIdeal.Gen.facts)
    (hInnerRefIdeal := Cert.InnerRefIdeal.Gen.facts) := by
  intro m ρ m' ρ' _ hag
  refine ⟨_, (θ_run Cert.InnerIdeal.defs _ _).mono (fun r h c => ⟨(h c).1.trans (Cert.InnerIdeal.Final.final m c), (h c).2⟩)
    (Cert.InnerIdeal.Value.run_blocks (F := Ideal) m ρ),
    (θ_run Cert.InnerRefIdeal.defs _ _).mono
      (fun r h c => ⟨(h c).1.trans ((Cert.InnerRefIdeal.Read.val_main_v63_eq (F := Ideal) m' c).trans ((ref_eq ..).trans ?_)), (h c).2⟩)
      (Cert.InnerRefIdeal.Value.run (F := Ideal) m' ρ')⟩
  obtain ⟨h0, h1, h2, h3, h4, h5, h6, h7, h8, h9, h10, h11, h12, h13, h14, h15, h16⟩ := hag c
  rw [h0, h1, h2, h3, h4, h5, h6, h7, h8, h9, h10, h11, h12, h13, h14, h15]

/-- The reference runs and leaves its arguments unchanged. -/
theorem ref_frame : Cert.quiescent_InnerRefIdeal (hInnerRefIdeal := Cert.InnerRefIdeal.Gen.facts) := fun m ρ _ =>
  (θ_run Cert.InnerRefIdeal.defs _ _).mono (fun r h => ⟨fun c => (h c).2, sem_eq_zero_of_no_sems (by decide) r.2⟩)
    (Cert.InnerRefIdeal.Value.run (F := Ideal) m ρ)

end Cert.InnerClaim

end
-- ==== Proof.Scan.lean ====
module

public import Mathlib.Data.EReal.Operations
public import Idealize.ShloMosaic.PureOps.Ideal

@[expose] public section

noncomputable section

/-! # A gated linear recurrence and the products and sums over its windows

`h_(n+1) = a_n h_n + u_n` over the extended reals, for coefficients `a` that are nonnegative and not `⊤`. -/

namespace Scan

variable (a u : ℕ → EReal)

/-- The recurrence `h_(n+1) = a_n h_n + u_n` from `h_0 = h0`. -/
def hseq (h0 : EReal) : ℕ → EReal
  | 0 => h0
  | n + 1 => a n * hseq h0 n + u n

/-- The product of the `n` coefficients that end at position `r`. -/
def P : ℕ → ℕ → EReal
  | 0, _ => 1
  | n + 1, r => a r * P n (r - 1)

/-- The recurrence run from zero over the `n` positions that end at `r`. -/
def W : ℕ → ℕ → EReal
  | 0, _ => 0
  | n + 1, r => a r * W n (r - 1) + u r

/-- A window of `n + m` positions has the product of its two parts. -/
theorem P_add (n m r : ℕ) : P a (n + m) r = P a n r * P a m (r - n) := by
  induction n generalizing r with
  | zero => simp [P]
  | succ n ih =>
    rw [Nat.add_right_comm]
    show a r * P a (n + m) (r - 1) = a r * P a n (r - 1) * P a m (r - (n + 1))
    rw [ih, mul_assoc, Nat.sub_sub, Nat.add_comm 1 n]

variable {a}

/-- A window of `n + m` positions, run from zero, is its last `n` positions run on from its first `m`. -/
theorem W_add (ha : ∀ r, 0 ≤ a r) (ha' : ∀ r, a r ≠ ⊤) (n m r : ℕ) :
    W a u (n + m) r = P a n r * W a u m (r - n) + W a u n r := by
  induction n generalizing r with
  | zero => simp [P, W]
  | succ n ih =>
    rw [Nat.add_right_comm]
    show a r * W a u (n + m) (r - 1) + u r
      = a r * P a n (r - 1) * W a u m (r - (n + 1)) + (a r * W a u n (r - 1) + u r)
    rw [ih, EReal.left_distrib_of_nonneg_of_ne_top (ha r) (ha' r), mul_assoc, Nat.sub_sub, Nat.add_comm 1 n,
      add_assoc]

/-- After `n + 1` positions the recurrence is the window of all of them and the start carried through it. -/
theorem hseq_eq (ha : ∀ r, 0 ≤ a r) (ha' : ∀ r, a r ≠ ⊤) (h0 : EReal) (n : ℕ) :
    W a u (n + 1) n + P a (n + 1) n * h0 = hseq a u h0 (n + 1) := by
  induction n with
  | zero => simp [P, W, hseq, add_comm]
  | succ n ih =>
    show a (n + 1) * W a u (n + 1) n + u (n + 1) + a (n + 1) * P a (n + 1) n * h0
      = a (n + 1) * hseq a u h0 (n + 1) + u (n + 1)
    rw [← ih, EReal.left_distrib_of_nonneg_of_ne_top (ha _) (ha' _), mul_assoc, add_right_comm]

/-- The recurrence over the positions from `m` on, started where the first `m` positions ended. -/
theorem hseq_shift (h0 : EReal) (m n : ℕ) :
    hseq (fun k => a (m + k)) (fun k => u (m + k)) (hseq a u h0 m) n = hseq a u h0 (m + n) := by
  induction n with
  | zero => rfl
  | succ n ih => show _ * hseq _ _ _ n + _ = _; rw [ih]; rfl

/-- One doubling of the products of windows cut off at the start. -/
theorem P_double (s r : ℕ) :
    (if s ≤ r then P a (min s (r + 1)) r * P a (min s (r - s + 1)) (r - s) else P a (min s (r + 1)) r)
      = P a (min (2 * s) (r + 1)) r := by
  split_ifs with h
  · rw [Nat.min_eq_left (by omega), ← P_add]; congr 1; omega
  · congr 1; omega

/-- One doubling of the recurrence over windows cut off at the start. -/
theorem W_double (ha : ∀ r, 0 ≤ a r) (ha' : ∀ r, a r ≠ ⊤) (s r : ℕ) :
    (if s ≤ r then P a (min s (r + 1)) r * W a u (min s (r - s + 1)) (r - s) + W a u (min s (r + 1)) r
      else W a u (min s (r + 1)) r) = W a u (min (2 * s) (r + 1)) r := by
  split_ifs with h
  · rw [Nat.min_eq_left (by omega : s ≤ r + 1), ← W_add u ha ha']; congr 1; omega
  · congr 1; omega

end Scan

end
-- ==== Proof.LruScalars.lean ====
module

public import proofs.«01_k».proof.Proof.Scan
public import Mathlib.Analysis.SpecialFunctions.Trigonometric.DerivHyp
public import Mathlib.Analysis.SpecialFunctions.Log.Basic

@[expose] public section

noncomputable section

/-! # The gated recurrence's coefficients, one number at a time -/

namespace LruScalars

open Idealize.ShloMosaic

/-- The single-precision constant one half. -/
theorem half : Ideal.ofBits .f32 0x3F000000#32 = ((1 / 2 : ℝ) : EReal) := by
  simp [Ideal.ofBits, Ideal.ieee, -EReal.coe_mul]; norm_num

/-- The single-precision constant two. -/
theorem two : Ideal.ofBits .f32 0x40000000#32 = ((2 : ℝ) : EReal) := by
  simp [Ideal.ofBits, Ideal.ieee, -EReal.coe_mul]; norm_num

/-- The single-precision constant minus eight. -/
theorem negEight : Ideal.ofBits .f32 0xC1000000#32 = ((-8 : ℝ) : EReal) := by
  simp [Ideal.ofBits, Ideal.ieee, -EReal.coe_mul, -EReal.coe_neg]; norm_num

/-- `log (1 + e^(-lam))`, written so that nothing overflows. -/
def softplusNeg (lam : EReal) : EReal := max (-lam) 0 + Ideal.log1p (Ideal.exp (-(max lam (-lam))))

/-- The logarithm of the recurrence's coefficient, of the gate's argument `x` and the channel's `lam`. -/
def logA (x lam : EReal) : EReal := Ideal.ofBits .f32 0xC1000000#32 * Ideal.logistic x * softplusNeg lam

/-- The recurrence's coefficient. -/
def coef (L : EReal) : EReal := Ideal.exp L

/-- The factor of the recurrence's input. -/
def inScale (L : EReal) : EReal := Ideal.sqrt (max (-(Ideal.exp (Ideal.ofBits .f32 0x40000000#32 * L) - 1)) 0)

theorem exp_nonneg (x : EReal) : 0 ≤ Ideal.exp x := by
  induction x using EReal.rec with
  | bot => simp
  | top => simp
  | coe r => rw [Ideal.exp_coe]; exact_mod_cast (Real.exp_pos r).le

theorem exp_ne_top {x : EReal} (h : x ≠ ⊤) : Ideal.exp x ≠ ⊤ := by
  induction x using EReal.rec with
  | bot => simp
  | top => exact absurd rfl h
  | coe r => rw [Ideal.exp_coe]; exact EReal.coe_ne_top _

theorem log1p_exp_nonneg (x : EReal) : 0 ≤ Ideal.log1p (Ideal.exp x) := by
  induction x using EReal.rec with
  | bot =>
    rw [Ideal.exp_bot, Ideal.log1p, add_zero]
    show 0 ≤ (if (1 : ℝ) ≤ 0 then (⊥ : EReal) else ((Real.log 1 : ℝ) : EReal))
    rw [if_neg (by norm_num), Real.log_one, EReal.coe_zero]
  | top =>
    rw [Ideal.exp_top, Ideal.log1p, EReal.add_top_of_ne_bot (show (1 : EReal) ≠ ⊥ from EReal.coe_ne_bot 1)]
    exact le_top
  | coe r =>
    have h : (1 : EReal) + ((Real.exp r : ℝ) : EReal) = ((1 + Real.exp r : ℝ) : EReal) := by
      rw [← EReal.coe_one, ← EReal.coe_add]
    have hp := Real.exp_pos r
    rw [Ideal.exp_coe, Ideal.log1p, h]
    show 0 ≤ (if 1 + Real.exp r ≤ 0 then (⊥ : EReal) else ((Real.log (1 + Real.exp r) : ℝ) : EReal))
    rw [if_neg (by linarith)]
    exact_mod_cast Real.log_nonneg (by linarith)

theorem softplusNeg_nonneg (lam : EReal) : 0 ≤ softplusNeg lam :=
  add_nonneg (le_max_right _ _) (log1p_exp_nonneg _)

theorem logistic_nonneg (x : EReal) : 0 ≤ Ideal.logistic x := by
  induction x using EReal.rec with
  | bot => simp
  | top => simp
  | coe r => rw [Ideal.logistic_coe]; exact_mod_cast (by positivity)

/-- The coefficient's logarithm is not positive. -/
theorem logA_nonpos (x lam : EReal) : logA x lam ≤ 0 := by
  have e : logA x lam = -(((8 : ℝ) : EReal) * Ideal.logistic x * softplusNeg lam) := by
    rw [logA, negEight, EReal.coe_neg, EReal.neg_mul, EReal.neg_mul]
  have h8 : (0 : EReal) ≤ ((8 : ℝ) : EReal) := by exact_mod_cast (by norm_num : (0 : ℝ) ≤ 8)
  rw [e, ← neg_zero]
  exact EReal.neg_le_neg_iff.mpr (mul_nonneg (mul_nonneg h8 (logistic_nonneg x)) (softplusNeg_nonneg lam))

theorem coef_nonneg (L : EReal) : 0 ≤ coef L := exp_nonneg L

theorem coef_ne_top {L : EReal} (h : L ≤ 0) : coef L ≠ ⊤ :=
  exp_ne_top fun e => absurd (e ▸ h : (⊤ : EReal) ≤ 0) (by decide)

/-- `tanh y (e^(2y) + 1) = e^(2y) - 1` on the reals. -/
theorem tanh_mul (y : ℝ) : Real.tanh y * (Real.exp (2 * y) + 1) = Real.exp (2 * y) - 1 := by
  have h : Real.exp (2 * y) = Real.exp y * Real.exp y := by rw [← Real.exp_add]; ring_nf
  have hc : Real.exp y + Real.exp (-y) ≠ 0 := by positivity
  have hi : Real.exp y * Real.exp (-y) = 1 := by rw [← Real.exp_add]; simp
  rw [Real.tanh_eq_sinh_div_cosh, Real.sinh_eq, Real.cosh_eq, h]
  field_simp
  linear_combination (-2 * Real.exp y) * hi

/-- The input's factor as it is computed with a hyperbolic tangent, where the coefficient's logarithm is not positive. -/
theorem inScale_tanh {L : EReal} (h : L ≤ 0) :
    Ideal.sqrt (max (0 - Ideal.tanh (Ideal.ofBits .f32 0x3F000000#32 * (Ideal.ofBits .f32 0x40000000#32 * L))
      * (Ideal.exp (Ideal.ofBits .f32 0x40000000#32 * L) + 1)) 0) = inScale L := by
  unfold inScale
  congr 2
  rw [zero_sub, half, two]
  congr 1
  induction L using EReal.rec with
  | bot =>
    rw [EReal.coe_mul_bot_of_pos (by norm_num), EReal.coe_mul_bot_of_pos (by norm_num), Ideal.tanh_bot, Ideal.exp_bot]
    simp
  | top => exact absurd h (by decide)
  | coe r =>
    have e : (1 / 2 : ℝ) * (2 * r) = r := by ring
    rw [← EReal.coe_mul, ← EReal.coe_mul, e, Ideal.tanh_coe, Ideal.exp_coe, ← EReal.coe_one, ← EReal.coe_add,
      ← EReal.coe_mul, ← EReal.coe_sub, tanh_mul]

end LruScalars

end
-- ==== Proof.LruPure.lean ====
module

public import proofs.«01_k».proof.Proof.LruScalars
public import proofs.«01_k».proof.Proof.Gen.LruIdeal.Skeleton
public import Idealize.ShloMosaic.Lib.Pointwise
public import Idealize.ShloMosaic.Lib.WordCmp

@[expose] public section

set_option maxRecDepth 16384

noncomputable section

/-! # The recurrence kernel's values at one row and one channel of a tile -/

namespace Cert.LruIdeal.Pure

open Cert.LruIdeal Cert.LruIdeal.Gen Idealize.ShloMosaic

/-- The rows from `s` on. -/
def mask (s : ℕ) : IVec S256x256 1 :=
  cmpi .sge (iota .tc S256x256 32 [0] iota_S256x256_d0_w32) (broadcast S256x256 (BitVec.ofNat 32 s))

/-- One doubling of the coefficients' products. -/
def aStep (s : ℕ) (A : FVec Ideal S256x256 .f32) : FVec Ideal S256x256 .f32 :=
  select (mask s) (mulf A (dynamicRotate 0 (BitVec.ofNat 32 s) none A rotates_S256x256_d0)) A

/-- One doubling of the recurrence's windows. -/
def uStep (s : ℕ) (A U : FVec Ideal S256x256 .f32) : FVec Ideal S256x256 .f32 :=
  select (mask s) (addf (mulf A (dynamicRotate 0 (BitVec.ofNat 32 s) none U rotates_S256x256_d0)) U) U

theorem sel (s : ℕ) (hs : s < 256) (r : Fin 256) (x y : EReal) :
    Scalar.select (IntOp.cmpi CmpIPredicate.sge (BitVec.ofNat 32 r.val) (BitVec.ofNat 32 s)) x y = if s ≤ r.val then x else y := by
  have hr := r.isLt
  unfold Scalar.select
  exact if_congr (WordCmp.cmpi_sge_ofNat_eq_one_iff (by omega) (by omega)) rfl rfl

theorem rot_row (s : ℕ) (hs : s < 256) (r : Fin 256) (h : s ≤ r.val)
    (hlt : (r.val + 256 - (BitVec.ofNat 32 s).toNat % 256) % 256 < 256) :
    (⟨(r.val + 256 - (BitVec.ofNat 32 s).toNat % 256) % 256, hlt⟩ : Fin 256) = ⟨r.val - s, by omega⟩ := by
  apply Fin.ext
  have e : (BitVec.ofNat 32 s).toNat = s := by rw [BitVec.toNat_ofNat]; omega
  show (r.val + 256 - (BitVec.ofNat 32 s).toNat % 256) % 256 = r.val - s
  rw [e]
  omega

/-- One doubling of the products, row by row. -/
theorem aStep_row (a : Fin 256 → ℕ → EReal) (s : ℕ) (hs : s < 256) (A : FVec Ideal S256x256 .f32)
    (hA : ∀ r c : Fin 256, A (ix2 r c) = Scan.P (a c) (min s (r.val + 1)) r.val) (r c : Fin 256) :
    aStep s A (ix2 r c) = Scan.P (a c) (min (2 * s) (r.val + 1)) r.val := by
  rw [← Scan.P_double]
  pointwise [aStep, mask]
  rw [sel s hs]
  split_ifs with h
  · rw [rot_row s hs r h, hA, hA]
  · exact hA r c

/-- One doubling of the recurrence's windows, row by row. -/
theorem uStep_row (a u : Fin 256 → ℕ → EReal) (ha : ∀ c r, 0 ≤ a c r) (ha' : ∀ c r, a c r ≠ ⊤) (s : ℕ) (hs : s < 256)
    (A U : FVec Ideal S256x256 .f32)
    (hA : ∀ r c : Fin 256, A (ix2 r c) = Scan.P (a c) (min s (r.val + 1)) r.val)
    (hU : ∀ r c : Fin 256, U (ix2 r c) = Scan.W (a c) (u c) (min s (r.val + 1)) r.val) (r c : Fin 256) :
    uStep s A U (ix2 r c) = Scan.W (a c) (u c) (min (2 * s) (r.val + 1)) r.val := by
  rw [← Scan.W_double _ (ha c) (ha' c)]
  pointwise [uStep, mask]
  rw [sel s hs]
  split_ifs with h
  · rw [rot_row s hs r h, hA, hU, hU]
  · exact hU r c

/-- The eight doublings of the coefficients' products. -/
def aAll (A : FVec Ideal S256x256 .f32) : ℕ → FVec Ideal S256x256 .f32
  | 0 => A
  | n + 1 => aStep (2 ^ n) (aAll A n)

/-- The eight doublings of the recurrence's windows. -/
def uAll (A U : FVec Ideal S256x256 .f32) : ℕ → FVec Ideal S256x256 .f32
  | 0 => U
  | n + 1 => uStep (2 ^ n) (aAll A n) (uAll A U n)

theorem aAll_row (a : Fin 256 → ℕ → EReal) (A : FVec Ideal S256x256 .f32) (hA : ∀ r c : Fin 256, A (ix2 r c) = a c r.val)
    (n : ℕ) (hn : n ≤ 8) (r c : Fin 256) : aAll A n (ix2 r c) = Scan.P (a c) (min (2 ^ n) (r.val + 1)) r.val := by
  induction n generalizing r c with
  | zero =>
    rw [Nat.min_eq_left (by omega)]
    exact (hA r c).trans (mul_one _).symm
  | succ n ih =>
    have h2 : 2 ^ n ≤ 2 ^ 7 := Nat.pow_le_pow_right (by decide) (by omega)
    rw [Nat.pow_succ, Nat.mul_comm]
    exact aStep_row a _ (by omega) _ (ih (by omega)) r c

theorem uAll_row (a u : Fin 256 → ℕ → EReal) (ha : ∀ c r, 0 ≤ a c r) (ha' : ∀ c r, a c r ≠ ⊤)
    (A U : FVec Ideal S256x256 .f32) (hA : ∀ r c : Fin 256, A (ix2 r c) = a c r.val)
    (hU : ∀ r c : Fin 256, U (ix2 r c) = u c r.val)
    (n : ℕ) (hn : n ≤ 8) (r c : Fin 256) : uAll A U n (ix2 r c) = Scan.W (a c) (u c) (min (2 ^ n) (r.val + 1)) r.val := by
  induction n generalizing r c with
  | zero =>
    rw [Nat.min_eq_left (by omega)]
    refine (hU r c).trans ?_
    show _ = a c r.val * 0 + u c r.val
    rw [mul_zero, zero_add]
  | succ n ih =>
    have h2 : 2 ^ n ≤ 2 ^ 7 := Nat.pow_le_pow_right (by decide) (by omega)
    rw [Nat.pow_succ, Nat.mul_comm]
    exact uStep_row a u ha ha' _ (by omega) _ _ (aAll_row a A hA n (by omega)) (ih (by omega)) r c

/-- The recurrence's input before any doubling. -/
def u0 (v30 v51 v70 : FVec Ideal S256x256 .f32) : FVec Ideal S256x256 .f32 :=
  mulf (sqrt (maximumf (subf (broadcast S256x256 (Scalar.ofBits .f32 0x00000000#32))
    (mulf (tanh (mulf (broadcast S256x256 (Scalar.ofBits .f32 0x3F000000#32)) v70))
      (addf (exp v70) (broadcast S256x256 (Scalar.ofBits .f32 0x3F800000#32)))))
    (broadcast S256x256 (Scalar.ofBits .f32 0x00000000#32)))) (mulf v51 v30)

theorem u0_apply (v30 v51 v70 : FVec Ideal S256x256 .f32) (r c : Fin 256) :
    u0 v30 v51 v70 (ix2 r c) = Ideal.sqrt (max (0 - Ideal.tanh (Ideal.ofBits .f32 0x3F000000#32 * v70 (ix2 r c))
      * (Ideal.exp (v70 (ix2 r c)) + 1)) 0) * (v51 (ix2 r c) * v30 (ix2 r c)) := by
  pointwise [u0]

theorem u0_row (v30 v51 v68 v70 : FVec Ideal S256x256 .f32) :
    k0_pay20 v30 v51 v68 v70 = uAll v68 (u0 v30 v51 v70) 3 := rfl

theorem pay21_eq (v68 : FVec Ideal S256x256 .f32) : k0_pay21 v68 = aAll v68 3 := rfl

theorem pay30_eq (v68 : FVec Ideal S256x256 .f32) :
    k0_pay30 (iota .tc S256x256 32 [0] iota_S256x256_d0_w32) (k0_pay21 v68) k0_pay22 = aAll v68 7 := rfl

theorem pay32_eq (v30 v51 v68 v70 : FVec Ideal S256x256 .f32) :
    k0_pay32 (iota .tc S256x256 32 [0] iota_S256x256_d0_w32) (k0_pay20 v30 v51 v68 v70) (k0_pay21 v68) k0_pay22
      (k0_pay23 v30 v51 v68 v70) = uAll v68 (u0 v30 v51 v70) 8 := by
  unfold k0_pay23
  rw [u0_row, pay21_eq]
  rfl

theorem pay33_eq (v68 : FVec Ideal S256x256 .f32) (v158 : Vec Ideal S1x256 .f32) :
    k0_pay33 (iota .tc S256x256 32 [0] iota_S256x256_d0_w32) (k0_pay21 v68) k0_pay22 v158
      = mulf (aAll v68 8) (broadcastTo S256x256 v158 broadcasts_S1x256_S256x256) := rfl

/-- The tile's recurrence, run on from the row carried in. -/
theorem h_row (a u : Fin 256 → ℕ → EReal) (ha : ∀ c r, 0 ≤ a c r) (ha' : ∀ c r, a c r ≠ ⊤)
    (v30 v51 v68 v70 : FVec Ideal S256x256 .f32) (v158 : Vec Ideal S1x256 .f32)
    (hA : ∀ r c : Fin 256, v68 (ix2 r c) = a c r.val)
    (hU : ∀ r c : Fin 256, u0 v30 v51 v70 (ix2 r c) = u c r.val) (r c : Fin 256) :
    k0_pay32 (iota .tc S256x256 32 [0] iota_S256x256_d0_w32) (k0_pay20 v30 v51 v68 v70) (k0_pay21 v68) k0_pay22
        (k0_pay23 v30 v51 v68 v70) (ix2 r c)
      + k0_pay33 (iota .tc S256x256 32 [0] iota_S256x256_d0_w32) (k0_pay21 v68) k0_pay22 v158 (ix2 r c)
      = Scan.hseq (a c) (u c) (v158 (ix2 0 c)) (r.val + 1) := by
  rw [pay32_eq, pay33_eq, uAll_row a u ha ha' _ _ hA hU 8 (by omega)]
  pointwise []
  rw [aAll_row a _ hA 8 (by omega), Nat.min_eq_right (by have := r.isLt; omega)]
  exact Scan.hseq_eq _ (ha c) (ha' c) _ _

end Cert.LruIdeal.Pure

end
-- ==== Proof.LruTile.lean ====
module

public import proofs.«01_k».proof.Proof.LruPure

@[expose] public section

set_option maxRecDepth 16384

noncomputable section

/-! # The RG-LRU branch as functions of a channel and a position -/

namespace Lru

open Idealize.ShloMosaic

/-- The branch's parameters: taps and bias of the convolution, the two gates' weights by blocks of 64 channels and
their biases, and the recurrence's parameter of each channel. -/
structure Par where
  cw : Fin 4 → Fin 256 → EReal
  cb : Fin 256 → EReal
  wa : Fin 4 → Fin 64 → Fin 64 → EReal
  ba : Fin 256 → EReal
  wx : Fin 4 → Fin 64 → Fin 64 → EReal
  bx : Fin 256 → EReal
  lam : Fin 256 → EReal

/-- The block of a channel. -/
def blk (c : Fin 256) : Fin 4 := ⟨c.val / 64, by have := c.isLt; omega⟩

/-- A channel's place in its block. -/
def loc (c : Fin 256) : Fin 64 := ⟨c.val % 64, by omega⟩

/-- The channel at place `i` of block `n`. -/
def ch (n : Fin 4) (i : Fin 64) : Fin 256 := ⟨64 * n.val + i.val, by have := n.isLt; have := i.isLt; omega⟩

/-- The block-diagonal linear map. -/
def lin (w : Fin 4 → Fin 64 → Fin 64 → EReal) (f : Fin 256 → EReal) (c : Fin 256) : EReal :=
  ∑ i : Fin 64, f (ch (blk c) i) * w (blk c) i (loc c)

/-- The causal convolution; `X c n` is the input three positions before `n`. -/
def conv (p : Par) (X : Fin 256 → ℕ → EReal) (c : Fin 256) (n : ℕ) : EReal :=
  X c n * p.cw 0 c + X c (n + 1) * p.cw 1 c + X c (n + 2) * p.cw 2 c + X c (n + 3) * p.cw 3 c + p.cb c

/-- The logarithm of the recurrence's coefficient. -/
def L (p : Par) (X : Fin 256 → ℕ → EReal) (c : Fin 256) (n : ℕ) : EReal :=
  LruScalars.logA (lin p.wa (fun d => conv p X d n) c + p.ba c) (p.lam c)

/-- The recurrence's coefficient. -/
def A (p : Par) (X : Fin 256 → ℕ → EReal) (c : Fin 256) (n : ℕ) : EReal := LruScalars.coef (L p X c n)

/-- The recurrence's input. -/
def U (p : Par) (X : Fin 256 → ℕ → EReal) (c : Fin 256) (n : ℕ) : EReal :=
  LruScalars.inScale (L p X c n) * (Ideal.logistic (lin p.wx (fun d => conv p X d n) c + p.bx c) * conv p X c n)

/-- The recurrence after `n` positions, from zero. -/
def H (p : Par) (X : Fin 256 → ℕ → EReal) (c : Fin 256) (n : ℕ) : EReal := Scan.hseq (A p X c) (U p X c) 0 n

/-- The gelu in its tanh form. -/
def gelu (x : EReal) : EReal :=
  x * (Ideal.ofBits .f32 0x3F000000#32 * (1 + Ideal.tanh (Ideal.ofBits .f32 0x3F4C422A#32
    * (x + Ideal.ofBits .f32 0x3D372713#32 * (x * (x * x))))))

theorem A_nonneg (p : Par) (X : Fin 256 → ℕ → EReal) (c : Fin 256) (n : ℕ) : 0 ≤ A p X c n := LruScalars.coef_nonneg _

theorem A_ne_top (p : Par) (X : Fin 256 → ℕ → EReal) (c : Fin 256) (n : ℕ) : A p X c n ≠ ⊤ :=
  LruScalars.coef_ne_top (LruScalars.logA_nonpos _ _)

/-- Positions counted from `m`: the recurrence run on from its value there. -/
theorem H_shift (p : Par) (X : Fin 256 → ℕ → EReal) (c : Fin 256) (m n : ℕ) :
    Scan.hseq (A p (fun d k => X d (m + k)) c) (U p (fun d k => X d (m + k)) c) (H p X c m) n = H p X c (m + n) :=
  Scan.hseq_shift (a := A p X c) (U p X c) 0 m n

end Lru

namespace Cert.LruIdeal.Pure

open Cert.LruIdeal Cert.LruIdeal.Gen Idealize.ShloMosaic

variable (p : Lru.Par) (X : Fin 256 → ℕ → EReal)

theorem pay8_row (v8 v12 v17 v22 : Vec Ideal S256x256 .f32) (v9 v13 v18 v23 v27 : Vec Ideal S1x256 .f32)
    (h0 : ∀ r c : Fin 256, v8 (ix2 r c) = X c r.val) (h1 : ∀ r c : Fin 256, v12 (ix2 r c) = X c (r.val + 1))
    (h2 : ∀ r c : Fin 256, v17 (ix2 r c) = X c (r.val + 2)) (h3 : ∀ r c : Fin 256, v22 (ix2 r c) = X c (r.val + 3))
    (w0 : ∀ c : Fin 256, v9 (ix2 0 c) = p.cw 0 c) (w1 : ∀ c : Fin 256, v13 (ix2 0 c) = p.cw 1 c)
    (w2 : ∀ c : Fin 256, v18 (ix2 0 c) = p.cw 2 c) (w3 : ∀ c : Fin 256, v23 (ix2 0 c) = p.cw 3 c)
    (wb : ∀ c : Fin 256, v27 (ix2 0 c) = p.cb c) (r c : Fin 256) :
    k0_pay8 v8 v9 v12 v13 v17 v18 v22 v23 v27 (ix2 r c) = Lru.conv p X c r.val := by
  pointwise [k0_pay8]
  rw [h0, h1, h2, h3, w0, w1, w2, w3, wb]
  rfl

theorem pay11_row (v30 : FVec Ideal S256x256 .f32) (v44 : Vec Ideal S256x256 .bf16) (v47 : Vec Ideal S1x256 .f32)
    (hv : ∀ r c : Fin 256, v30 (ix2 r c) = Lru.conv p X c r.val)
    (hw : ∀ (f : Fin 256 → EReal) (c : Fin 256), ∑ x, f x * v44 (ix2 x c) = Lru.lin p.wx f c)
    (hb : ∀ c : Fin 256, v47 (ix2 0 c) = p.bx c) (r c : Fin 256) :
    k0_pay11 v30 v44 v47 (ix2 r c) = Ideal.logistic (Lru.lin p.wx (fun d => Lru.conv p X d r.val) c + p.bx c) := by
  pointwise [k0_pay11, k0_pay10]
  simp only [hv]
  rw [hw (fun d => Lru.conv p X d r.val) c, hb]

theorem pay12_row (v30 : FVec Ideal S256x256 .f32) (v36 : Vec Ideal S256x256 .bf16) (v39 v52 : Vec Ideal S1x256 .f32)
    (hv : ∀ r c : Fin 256, v30 (ix2 r c) = Lru.conv p X c r.val)
    (hw : ∀ (f : Fin 256 → EReal) (c : Fin 256), ∑ x, f x * v36 (ix2 x c) = Lru.lin p.wa f c)
    (hb : ∀ c : Fin 256, v39 (ix2 0 c) = p.ba c) (hl : ∀ c : Fin 256, v52 (ix2 0 c) = p.lam c) (r c : Fin 256) :
    k0_pay12 v30 v36 v39 v52 (ix2 r c) = Lru.L p X c r.val := by
  pointwise [k0_pay12, k0_pay10]
  simp only [hv]
  rw [hw (fun d => Lru.conv p X d r.val) c, hb, hl, zero_sub, zero_sub]
  rfl

/-- One tile's recurrence as the kernel computes it, at one row and channel. -/
abbrev tileAt (v8 : Vec Ideal S256x256 .f32) (v9 : Vec Ideal S1x256 .f32) (v12 : Vec Ideal S256x256 .f32) (v13 : Vec Ideal S1x256 .f32)
    (v17 : Vec Ideal S256x256 .f32) (v18 : Vec Ideal S1x256 .f32) (v22 : Vec Ideal S256x256 .f32) (v23 v27 : Vec Ideal S1x256 .f32)
    (v36 : Vec Ideal S256x256 .bf16) (v39 : Vec Ideal S1x256 .f32) (v44 : Vec Ideal S256x256 .bf16) (v47 v52 v158 : Vec Ideal S1x256 .f32)
    (r c : Fin 256) : EReal :=
    k0_pay32 (iota .tc S256x256 32 [0] iota_S256x256_d0_w32)
          (k0_pay20 (k0_pay8 v8 v9 v12 v13 v17 v18 v22 v23 v27) (k0_pay11 (k0_pay8 v8 v9 v12 v13 v17 v18 v22 v23 v27) v44 v47)
            (k0_pay13 (k0_pay8 v8 v9 v12 v13 v17 v18 v22 v23 v27) v36 v39 v52) (k0_pay14 (k0_pay8 v8 v9 v12 v13 v17 v18 v22 v23 v27) v36 v39 v52))
          (k0_pay21 (k0_pay13 (k0_pay8 v8 v9 v12 v13 v17 v18 v22 v23 v27) v36 v39 v52)) k0_pay22
          (k0_pay23 (k0_pay8 v8 v9 v12 v13 v17 v18 v22 v23 v27) (k0_pay11 (k0_pay8 v8 v9 v12 v13 v17 v18 v22 v23 v27) v44 v47)
            (k0_pay13 (k0_pay8 v8 v9 v12 v13 v17 v18 v22 v23 v27) v36 v39 v52) (k0_pay14 (k0_pay8 v8 v9 v12 v13 v17 v18 v22 v23 v27) v36 v39 v52))
          (ix2 r c)
        + k0_pay33 (iota .tc S256x256 32 [0] iota_S256x256_d0_w32)
          (k0_pay21 (k0_pay13 (k0_pay8 v8 v9 v12 v13 v17 v18 v22 v23 v27) v36 v39 v52)) k0_pay22 v158 (ix2 r c)

/-- One tile's recurrence, at every row and channel. -/
theorem tile_row (v8 v12 v17 v22 : Vec Ideal S256x256 .f32) (v9 v13 v18 v23 v27 : Vec Ideal S1x256 .f32)
    (v36 v44 : Vec Ideal S256x256 .bf16) (v39 v47 v52 v158 : Vec Ideal S1x256 .f32) (g : Fin 256 → EReal)
    (h0 : ∀ r c : Fin 256, v8 (ix2 r c) = X c r.val) (h1 : ∀ r c : Fin 256, v12 (ix2 r c) = X c (r.val + 1))
    (h2 : ∀ r c : Fin 256, v17 (ix2 r c) = X c (r.val + 2)) (h3 : ∀ r c : Fin 256, v22 (ix2 r c) = X c (r.val + 3))
    (w0 : ∀ c : Fin 256, v9 (ix2 0 c) = p.cw 0 c) (w1 : ∀ c : Fin 256, v13 (ix2 0 c) = p.cw 1 c)
    (w2 : ∀ c : Fin 256, v18 (ix2 0 c) = p.cw 2 c) (w3 : ∀ c : Fin 256, v23 (ix2 0 c) = p.cw 3 c)
    (wb : ∀ c : Fin 256, v27 (ix2 0 c) = p.cb c)
    (hwa : ∀ (f : Fin 256 → EReal) (c : Fin 256), ∑ x, f x * v36 (ix2 x c) = Lru.lin p.wa f c)
    (hba : ∀ c : Fin 256, v39 (ix2 0 c) = p.ba c)
    (hwx : ∀ (f : Fin 256 → EReal) (c : Fin 256), ∑ x, f x * v44 (ix2 x c) = Lru.lin p.wx f c)
    (hbx : ∀ c : Fin 256, v47 (ix2 0 c) = p.bx c) (hl : ∀ c : Fin 256, v52 (ix2 0 c) = p.lam c)
    (hg : ∀ c : Fin 256, v158 (ix2 0 c) = g c) (r c : Fin 256) :
    tileAt v8 v9 v12 v13 v17 v18 v22 v23 v27 v36 v39 v44 v47 v52 v158 r c
      = Scan.hseq (Lru.A p X c) (Lru.U p X c) (g c) (r.val + 1) := by
  unfold tileAt
  have e30 := pay8_row p X v8 v12 v17 v22 v9 v13 v18 v23 v27 h0 h1 h2 h3 w0 w1 w2 w3 wb
  generalize k0_pay8 v8 v9 v12 v13 v17 v18 v22 v23 v27 = v30 at e30 ⊢
  have e51 := pay11_row p X v30 v44 v47 e30 hwx hbx
  have e67 := pay12_row p X v30 v36 v39 v52 e30 hwa hba hl
  rw [← hg c]
  apply h_row (Lru.A p X) (Lru.U p X) (Lru.A_nonneg p X) (Lru.A_ne_top p X)
  · intro r c
    pointwise [k0_pay13]
    rw [e67]
    rfl
  · intro r c
    have e70 : k0_pay14 v30 v36 v39 v52 (ix2 r c) = Ideal.ofBits .f32 0x40000000#32 * Lru.L p X c r.val := by
      rw [← e67]
      pointwise [k0_pay14]
    rw [u0_apply, e70, e51, e30, LruScalars.inScale_tanh (L := Lru.L p X c r.val) (LruScalars.logA_nonpos _ _)]
    rfl

/-- What a tile hands on: its last row, in every row of the carried buffer. -/
theorem pay2_row (v154 v160 : FVec Ideal S256x256 .f32) (r : Fin 8) (c : Fin 256) :
    k0_pay2 v154 v160 (ix2 r c) = v154 (ix2 255 c) + v160 (ix2 255 c) := by
  pointwise [k0_pay2, k0_pay1]

/-- What a tile writes out. -/
theorem pay3_row (v154 v160 : FVec Ideal S256x256 .f32) (v168 : Vec Ideal S1x256x256 .f32) (r c : Fin 256) :
    k0_pay3 v154 v160 v168 (ix3 0 r c) = (v154 (ix2 r c) + v160 (ix2 r c)) * Lru.gelu (v168 (ix3 0 r c)) := by
  pointwise [k0_pay3, k0_pay1]
  rfl

/-- A block-diagonal matrix's product is its blocks' product. -/
theorem diag_sum (w : Fin 4 → Fin 64 → Fin 64 → EReal) (e : Fin 4 → Fin 4 → EReal) (he : ∀ i, e i i = 1) (he' : ∀ i j, i ≠ j → e i j = 0)
    (f : Fin 256 → EReal) (c : Fin 256) :
    ∑ x : Fin 256, f x * (w (Lru.blk x) (Lru.loc x) (Lru.loc c) * e (Lru.blk x) (Lru.blk c)) = Lru.lin w f c := by
  have hinj : Function.Injective (Lru.ch (Lru.blk c)) := fun i j h => by
    have h' := congrArg Fin.val h
    apply Fin.ext
    simp only [Lru.ch] at h'
    omega
  unfold Lru.lin
  rw [← Finset.sum_image (s := Finset.univ) (g := Lru.ch (Lru.blk c)) (f := fun x => f x * w (Lru.blk c) (Lru.loc x) (Lru.loc c)) (fun i _ j _ h => hinj h) |>.trans
    (Finset.sum_congr rfl fun i _ => by
      have hl : Lru.loc (Lru.ch (Lru.blk c) i) = i := by
        apply Fin.ext
        have := i.isLt
        simp only [Lru.loc, Lru.ch]
        omega
      rw [hl])]
  symm
  refine (Finset.sum_congr rfl fun x hx => ?_).trans (Finset.sum_subset (Finset.subset_univ _) fun x _ hx => ?_)
  · obtain ⟨i, _, rfl⟩ := Finset.mem_image.mp hx
    have hb : Lru.blk (Lru.ch (Lru.blk c) i) = Lru.blk c := by
      apply Fin.ext
      have := i.isLt
      simp only [Lru.blk, Lru.ch]
      omega
    rw [hb, he, mul_one]
  · have hne : Lru.blk x ≠ Lru.blk c := fun h => hx (Finset.mem_image.mpr ⟨Lru.loc x, Finset.mem_univ _, by
      rw [← h]
      apply Fin.ext
      simp only [Lru.blk, Lru.ch, Lru.loc]
      omega⟩)
    rw [he' _ _ hne, mul_zero, mul_zero]

end Cert.LruIdeal.Pure

end
-- ==== Proof.LruBlocks.lean ====
module

public import proofs.«01_k».proof.Proof.LruTile
public import proofs.«01_k».proof.Proof.Gen.LruIdeal.Value
public import Idealize.ShloMosaic.Lib.Pipeline.ValueKit
public import Idealize.ShloMosaic.Lib.Claim
public import Idealize.ShloMosaic.Lib.StableHlo.ReadAt

@[expose] public section

set_option maxRecDepth 16384

noncomputable section

/-! # The recurrence kernel's input blocks -/

namespace Lru

open Cert.LruIdeal Idealize.ShloMosaic

/-- The branch's parameters, of the kernel's arguments. -/
def par (x1 : FVec Ideal S4x256 .f32) (x2 : FVec Ideal S256 .f32) (x3 : FVec Ideal S4x64x64 .f32) (x4 : FVec Ideal S256 .f32)
    (x5 : FVec Ideal S4x64x64 .f32) (x6 x7 : FVec Ideal S256 .f32) : Par where
  cw j k := x1 (ix2 j k)
  cb k := x2 (ix1 k)
  wa n i j := x3 (ix3 n i j)
  ba k := x4 (ix1 k)
  wx n i j := x5 (ix3 n i j)
  bx k := x6 (ix1 k)
  lam k := x7 (ix1 k)

/-- The convolution's input, three zeros before the first position. -/
def inp (x0 : FVec Ideal S8x4096x512 .f32) (b : Fin 8) (k : Fin 256) (n : ℕ) : EReal :=
  if h : 3 ≤ n ∧ n < 4099 then x0 (ix3 b ⟨n - 3, by omega⟩ ⟨k.val, by have := k.isLt; omega⟩) else 0

/-- The branch's result at one position and channel. -/
def G (x0 : FVec Ideal S8x4096x512 .f32) (p : Par) : FVec Ideal S8x4096x256 .f32 := fun y =>
  H p (inp x0 (y 0)) (y 2) ((y 1).val + 1) * gelu (x0 (ix3 (y 0) (y 1) ⟨256 + (y 2).val, by have h : (y 2).val < 256 := (y 2).isLt; omega⟩))

end Lru

namespace Cert.LruIdeal.Blocks

open Cert.LruIdeal Cert.LruIdeal.Gen Cert.LruIdeal.Pure Idealize.ShloMosaic Idealize.ShloMosaic.TcCoe Idealize.SL.Sem

variable (m : (ℓ : Loc nD τ sig) → Buf (Elt Ideal) ℓ)

/-- Every window's block index at every grid point. -/
theorem idx : ∀ t : Fin cfg0.N, win0_0.index t = ![t.val / 16, t.val % 16, 0]
    ∧ win0_1.index t = ![0, 0] ∧ win0_2.index t = ![0, 0] ∧ win0_3.index t = ![0, 0]
    ∧ win0_4.index t = ![0, 0] ∧ win0_5.index t = ![0, 0] ∧ win0_6.index t = ![0, 0]
    ∧ win0_7.index t = ![0, 0] ∧ win0_8.index t = ![t.val / 16, t.val % 16, 0] :=
  (by decide +kernel : ∀ t : Fin grid0.N, _)

/-- Window 0's block at point `t` is 256 positions of one sequence. -/
theorem blk0 (c : Dev nD) (t : Fin cfg0.N) (b : Fin 8) (hb : b.val = t.val / 16) (r : Fin 256) (n : Fin 4096)
    (hn : n.val = 256 * (t.val % 16) + r.val) (k : Fin 512) :
    (iblk m c 0 t : FVec Ideal S1x256x512 .f32) (ix3 0 r k) = (m ((c : Thread nD τ).loc main_arg0) : FVec Ideal S8x4096x512 .f32) (ix3 b n k) := by
  blk_ext [iblk, V, idx t]

theorem blk1 (c : Dev nD) (t : Fin cfg0.N) (j : Fin 4) (k : Fin 256) :
    (iblk m c 1 t : FVec Ideal S4x256 .f32) (ix2 j k) = (m ((c : Thread nD τ).loc main_arg1) : FVec Ideal S4x256 .f32) (ix2 j k) := by
  blk_ext [iblk, V, idx t]

theorem blk2 (c : Dev nD) (t : Fin cfg0.N) (k : Fin 256) :
    (iblk m c 2 t : FVec Ideal S1x256 .f32) (ix2 0 k) = (m ((c : Thread nD τ).loc main_arg2) : FVec Ideal S256 .f32) (ix1 k) := by
  have h : (iblk m c 2 t : FVec Ideal S1x256 .f32) (ix2 0 k) = (V m c main_v0 : FVec Ideal S1x256 .f32) (ix2 0 k) := by
    blk_ext [iblk, idx t]
  rw [h]
  unfold V
  after_reads_at

theorem blk4 (c : Dev nD) (t : Fin cfg0.N) (k : Fin 256) :
    (iblk m c 4 t : FVec Ideal S1x256 .f32) (ix2 0 k) = (m ((c : Thread nD τ).loc main_arg4) : FVec Ideal S256 .f32) (ix1 k) := by
  have h : (iblk m c 4 t : FVec Ideal S1x256 .f32) (ix2 0 k) = (V m c main_v14 : FVec Ideal S1x256 .f32) (ix2 0 k) := by
    blk_ext [iblk, idx t]
  rw [h]
  unfold V
  after_reads_at

theorem blk6 (c : Dev nD) (t : Fin cfg0.N) (k : Fin 256) :
    (iblk m c 6 t : FVec Ideal S1x256 .f32) (ix2 0 k) = (m ((c : Thread nD τ).loc main_arg6) : FVec Ideal S256 .f32) (ix1 k) := by
  have h : (iblk m c 6 t : FVec Ideal S1x256 .f32) (ix2 0 k) = (V m c main_v28 : FVec Ideal S1x256 .f32) (ix2 0 k) := by
    blk_ext [iblk, idx t]
  rw [h]
  unfold V
  after_reads_at

theorem blk7 (c : Dev nD) (t : Fin cfg0.N) (k : Fin 256) :
    (iblk m c 7 t : FVec Ideal S1x256 .f32) (ix2 0 k) = (m ((c : Thread nD τ).loc main_arg7) : FVec Ideal S256 .f32) (ix1 k) := by
  have h : (iblk m c 7 t : FVec Ideal S1x256 .f32) (ix2 0 k) = (V m c main_v29 : FVec Ideal S1x256 .f32) (ix2 0 k) := by
    blk_ext [iblk, idx t]
  rw [h]
  unfold V
  after_reads_at

/-- The identity matrix of the blocks, as the host makes it. -/
def eye (i j : Fin 4) : EReal :=
  FloatOps.uitofp (F := Ideal) .f32 (IntOp.cmpi CmpIPredicate.eq (IntOp.addi (BitVec.ofNat 32 i.val) 0#32) (BitVec.ofNat 32 j.val))

theorem eye_one (i : Fin 4) : eye i i = 1 := by
  have h : IntOp.cmpi CmpIPredicate.eq (IntOp.addi (BitVec.ofNat 32 i.val) 0#32) (BitVec.ofNat 32 i.val) = 1#1 := by
    revert i; decide
  unfold eye
  rw [h]
  show (((1#1 : BitVec 1).toNat : ℝ) : EReal) = 1
  simp

theorem eye_zero (i j : Fin 4) (hij : i ≠ j) : eye i j = 0 := by
  have h : IntOp.cmpi CmpIPredicate.eq (IntOp.addi (BitVec.ofNat 32 i.val) 0#32) (BitVec.ofNat 32 j.val) = 0#1 := by
    revert i j; decide
  unfold eye
  rw [h]
  show (((0#1 : BitVec 1).toNat : ℝ) : EReal) = 0
  simp

/-- The block-diagonal matrix, as the host makes it. -/
def diag (w : FVec Ideal S4x64x64 .f32) (x k : Fin 256) : EReal :=
  w (ix3 (Lru.blk x) (Lru.loc x) (Lru.loc k)) * eye (Lru.blk x) (Lru.blk k)

theorem diag_lin (w : FVec Ideal S4x64x64 .f32) (f : Fin 256 → EReal) (c : Fin 256) :
    ∑ x, f x * diag w x c = Lru.lin (fun n i j => w (ix3 n i j)) f c :=
  diag_sum (fun n i j => w (ix3 n i j)) eye eye_one eye_zero f c

theorem blk3 (c : Dev nD) (t : Fin cfg0.N) (x k : Fin 256) :
    (iblk m c 3 t : FVec Ideal S256x256 .bf16) (ix2 x k) = diag (m ((c : Thread nD τ).loc main_arg3)) x k := by
  have h : (iblk m c 3 t : FVec Ideal S256x256 .bf16) (ix2 x k) = (V m c main_v13 : FVec Ideal S256x256 .bf16) (ix2 x k) := by
    blk_ext [iblk, idx t]
  rw [h]
  unfold V
  after_reads_at
  rfl

theorem blk5 (c : Dev nD) (t : Fin cfg0.N) (x k : Fin 256) :
    (iblk m c 5 t : FVec Ideal S256x256 .bf16) (ix2 x k) = diag (m ((c : Thread nD τ).loc main_arg5)) x k := by
  have h : (iblk m c 5 t : FVec Ideal S256x256 .bf16) (ix2 x k) = (V m c main_v27 : FVec Ideal S256x256 .bf16) (ix2 x k) := by
    blk_ext [iblk, idx t]
  rw [h]
  unfold V
  after_reads_at
  rfl

end Cert.LruIdeal.Blocks

end
-- ==== Proof.LruState.lean ====
module

public import proofs.«01_k».proof.Proof.LruBlocks
public import Idealize.ShloMosaic.Lib.WritesUnit
public import Idealize.ShloMosaic.Lib.Pipeline.ReadBack

@[expose] public section

set_option maxRecDepth 16384

noncomputable section

/-! # What the recurrence kernel holds after each grid point -/

namespace Cert.LruIdeal.State

open Cert.LruIdeal Cert.LruIdeal.Gen Cert.LruIdeal.Pure Cert.LruIdeal.Blocks Idealize.ShloMosaic Idealize.ShloMosaic.TcCoe Idealize.SL.Sem

/-- The padded tile, read `o - 5` rows further: the rows kept from before, then the tile's own. -/
theorem pad_read {sig' : RefSig} {κ : Kind} {sp : Space} (v : View sig' κ sp S264x256 .f32) (f : v.ty.Contents (Elt Ideal))
    (inb : ∀ a, (![8, 0] : Fin 2 → ℕ) a + (![256, 256] : Fin 2 → ℕ) a ≤ S264x256.size a)
    (v3 : Vec Ideal S1x256x256 .f32) (L : List (View.Piece (Elt Ideal) S264x256 .f32)) (Y : Fin 256 → ℕ → EReal)
    (hold : ∀ (i : Fin 3) (k : Fin 256), v.read (Elt Ideal) (v.writes (Elt Ideal) f L) (ix2 ⟨5 + i.val, by omega⟩ k) = Y k i.val)
    (hnew : ∀ r k : Fin 256, v3 (ix3 0 r k) = Y k (r.val + 3))
    (o : ℕ) (ho : 5 ≤ o) (ho' : o ≤ 8) (r c : Fin 256) (y : S264x256.Idx) (hy0 : (y 0).val = o + r.val) (hy1 : (y 1).val = c.val) :
    v.read (Elt Ideal) (v.writes (Elt Ideal) f (⟨Rect.unit (s := S264x256) ![8, 0] ![256, 256] inb, k0_pay7 v3⟩ :: L)) y
      = Y c (r.val + (o - 5)) := by
  have hr := r.isLt
  by_cases h : 8 ≤ o + r.val
  · refine (View.read_writes_cons_rows_of_mem v f inb _ L y (ix2 ⟨o + r.val - 8, by omega⟩ c) rfl
      (by rw [hy0]; show o + r.val = 8 + (o + r.val - 8); omega) hy1).trans ?_
    have e : k0_pay7 v3 (ix2 ⟨o + r.val - 8, by omega⟩ c) = v3 (ix3 0 ⟨o + r.val - 8, by omega⟩ c) := by
      pointwise [k0_pay7, k0_pay6]
    refine e.trans ((hnew _ _).trans ?_)
    congr 1
    show o + r.val - 8 + 3 = _
    omega
  · refine (View.read_writes_cons_rows_of_not_mem v f inb _ L y rfl rfl (Or.inl (by rw [hy0]; omega))).trans ?_
    have e : y = ix2 ⟨5 + (⟨o + r.val - 5, by omega⟩ : Fin 3).val, by show 5 + (o + r.val - 5) < 264; omega⟩ c := by
      funext a
      apply Fin.ext
      match a with
      | ⟨0, _⟩ => exact hy0.trans (by show o + r.val = 5 + (o + r.val - 5); omega)
      | ⟨1, _⟩ => exact hy1
    rw [e, hold]
    congr 1
    show o + r.val - 5 = _
    omega

/-- `pad_read`, for a load that the point's stores cover. -/
theorem pad_cov {sig' : RefSig} {κ : Kind} {sp : Space} (v : View sig' κ sp S264x256 .f32)
    (inb : ∀ a, (![8, 0] : Fin 2 → ℕ) a + (![256, 256] : Fin 2 → ℕ) a ≤ S264x256.size a)
    (v3 : Vec Ideal S1x256x256 .f32) (L : List (View.Piece (Elt Ideal) S264x256 .f32)) (Y : Fin 256 → ℕ → EReal)
    (hold : ∀ (i : Fin 3) (k : Fin 256), v.read (Elt Ideal) (v.writes (Elt Ideal) v.junk L) (ix2 ⟨5 + i.val, by omega⟩ k) = Y k i.val)
    (hnew : ∀ r k : Fin 256, v3 (ix3 0 r k) = Y k (r.val + 3))
    (o d : ℕ) (ho : o = 5 + d) (hd : d ≤ 3) (inb' : ∀ a, (![o, 0] : Fin 2 → ℕ) a + (![256, 256] : Fin 2 → ℕ) a ≤ S264x256.size a) (r c : Fin 256) :
    v.readCov (⟨Rect.unit (s := S264x256) ![8, 0] ![256, 256] inb, k0_pay7 v3⟩ :: L)
      (Rect.unit (s := S264x256) ![o, 0] ![256, 256] inb').toLoadRect (ix2 r c) = Y c (r.val + d) := by
  subst ho
  unfold View.readCov
  rw [View.readAt_apply]
  refine (pad_read v _ inb v3 L Y hold hnew (5 + d) (by omega) (by omega) r c _ ?_ ?_).trans (by rw [Nat.add_sub_cancel_left])
  · show 5 + d + 1 * r.val = _
    omega
  · show 0 + 1 * c.val = _
    omega

/-- `pad_read`, for a load over what the point before left. -/
theorem pad_ld {sig' : RefSig} {κ : Kind} {sp : Space} (v : View sig' κ sp S264x256 .f32) (f : v.ty.Contents (Elt Ideal))
    (inb : ∀ a, (![8, 0] : Fin 2 → ℕ) a + (![256, 256] : Fin 2 → ℕ) a ≤ S264x256.size a)
    (v3 : Vec Ideal S1x256x256 .f32) (Y : Fin 256 → ℕ → EReal)
    (hold : ∀ (i : Fin 3) (k : Fin 256), v.read (Elt Ideal) f (ix2 ⟨5 + i.val, by omega⟩ k) = Y k i.val)
    (hnew : ∀ r k : Fin 256, v3 (ix3 0 r k) = Y k (r.val + 3))
    (o d : ℕ) (ho : o = 5 + d) (hd : d ≤ 3) (inb' : ∀ a, (![o, 0] : Fin 2 → ℕ) a + (![256, 256] : Fin 2 → ℕ) a ≤ S264x256.size a) (r c : Fin 256) :
    View.ld (v.read (Elt Ideal) (v.writes (Elt Ideal) f [⟨Rect.unit (s := S264x256) ![8, 0] ![256, 256] inb, k0_pay7 v3⟩]))
      (Rect.unit (s := S264x256) ![o, 0] ![256, 256] inb') (ix2 r c) = Y c (r.val + d) := by
  subst ho
  refine (pad_read v f inb v3 [] Y hold hnew (5 + d) (by omega) (by omega) r c _ ?_ ?_).trans (by rw [Nat.add_sub_cancel_left])
  · show 5 + d + 1 * r.val = _
    omega
  · show 0 + 1 * c.val = _
    omega

/-- The load of the tile's own rows. -/
theorem own_cov {sig' : RefSig} {κ : Kind} {sp : Space} (v : View sig' κ sp S264x256 .f32)
    (inb : ∀ a, (![8, 0] : Fin 2 → ℕ) a + (![256, 256] : Fin 2 → ℕ) a ≤ S264x256.size a)
    (v3 : Vec Ideal S1x256x256 .f32) (L : List (View.Piece (Elt Ideal) S264x256 .f32)) (Y : Fin 256 → ℕ → EReal)
    (hnew : ∀ r k : Fin 256, v3 (ix3 0 r k) = Y k (r.val + 3)) (r c : Fin 256) :
    v.readCov (⟨Rect.unit (s := S264x256) ![8, 0] ![256, 256] inb, k0_pay7 v3⟩ :: L)
      (Rect.unit (s := S264x256) ![8, 0] ![256, 256] inb).toLoadRect (ix2 r c) = Y c (r.val + 3) := by
  rw [View.readCov_cons_toLoadRect]
  refine Eq.trans ?_ (hnew r c)
  pointwise [k0_pay7, k0_pay6]

/-- The rows handed on are the tile's last. -/
theorem pay9_row (v3 : Vec Ideal S1x256x256 .f32) (i : Fin 8) (k : Fin 256) :
    k0_pay9 (k0_pay6 v3) (ix2 i k) = v3 (ix3 0 ⟨248 + i.val, by omega⟩ k) := by
  pointwise [k0_pay9, k0_pay6]

/-- What the first eight rows hold once stored. -/
theorem keep_row (inb : ∀ a, (![0, 0] : Fin 2 → ℕ) a + (![8, 256] : Fin 2 → ℕ) a ≤ S264x256.size a)
    (w : (Rect.unit (s := S264x256) ![0, 0] ![8, 256] inb).shape.Idx → Elt Ideal .f32)
    (L : List (View.Piece (Elt Ideal) S264x256 .f32)) (i : Fin 3) (k : Fin 256) :
    View.canon (⟨Rect.unit (s := S264x256) ![0, 0] ![8, 256] inb, w⟩ :: L) (ix2 ⟨5 + i.val, by omega⟩ k)
      = w (ix2 ⟨5 + i.val, by omega⟩ k) := by
  have e : (ix2 ⟨5 + i.val, by omega⟩ k : S264x256.Idx) = (Rect.unit (s := S264x256) ![0, 0] ![8, 256] inb).emb (ix2 ⟨5 + i.val, by omega⟩ k) := by
    blk_ext []
  rw [e]
  exact View.canon_cons_emb _ w L _

/-- The running state is zero where a sequence starts. -/
theorem zero_cov {sig' : RefSig} {κ : Kind} {sp : Space} (v : View sig' κ sp S8x256 .f32)
    (inb : ∀ a, (![0, 0] : Fin 2 → ℕ) a + (![8, 256] : Fin 2 → ℕ) a ≤ S8x256.size a)
    (inb' : ∀ a, (![0, 0] : Fin 2 → ℕ) a + (![1, 256] : Fin 2 → ℕ) a ≤ S8x256.size a) (k : Fin 256) :
    v.readCov ([⟨Rect.unit (s := S8x256) ![0, 0] ![8, 256] inb, k0_pay5 (F := Ideal)⟩] : List (View.Piece (Elt Ideal) S8x256 .f32))
      (Rect.unit (s := S8x256) ![0, 0] ![1, 256] inb').toLoadRect (ix2 0 k) = 0 := by
  rw [View.readCov_eq_canon']
  have e := View.canon_cons_unit_lit (S := S8x256) (Val := Elt Ideal) (e := .f32) inb (k0_pay5 (F := Ideal)) [] (by decide)
  refine (congrFun e _).trans ?_
  pointwise [k0_pay5]

variable (m : (ℓ : Loc nD τ sig) → Buf (Elt Ideal) ℓ)

/-- The parameters in memory. -/
abbrev P (c : Dev nD) : Lru.Par :=
  Lru.par (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg7))

/-- The convolution's input of one sequence in memory. -/
abbrev X (c : Dev nD) (b : Fin 8) : Fin 256 → ℕ → EReal := Lru.inp (m ((c : Thread nD τ).loc main_arg0)) b

/-- The positions of a tile. -/
abbrev XT (c : Dev nD) (b : Fin 8) (j : ℕ) : Fin 256 → ℕ → EReal := fun k n => X m c b k (256 * j + n)

/-- What is carried between the tiles of one sequence. -/
structure Carried (c : Dev nD) (b : Fin 8) (j : ℕ) (s0 : FVec Ideal S264x256 .f32) (s1 : FVec Ideal S8x256 .f32) : Prop where
  pad : ∀ (i : Fin 3) (k : Fin 256), s0 (ix2 ⟨5 + i.val, by omega⟩ k) = XT m c b j k i.val
  h : ∀ k : Fin 256, s1 (ix2 0 k) = Lru.H (P m c) (X m c b) k (256 * j)

theorem inp_new (c : Dev nD) (t : Fin cfg0.N) (b : Fin 8) (hb : b.val = t.val / 16) (r k : Fin 256) :
    (iblk m c 0 t : FVec Ideal S1x256x512 .f32) (ix3 0 r ⟨k.val, by have := k.isLt; omega⟩) = XT m c b (t.val % 16) k (r.val + 3) := by
  have hr := r.isLt
  rw [blk0 m c t b hb r ⟨256 * (t.val % 16) + r.val, by omega⟩ rfl]
  unfold XT X Lru.inp
  rw [dif_pos (by omega)]
  congr 2

/-- What a point leaves, when its tile's recurrence is `hseq` of the sequence: its block and what it hands on. -/
structure Left (c : Dev nD) (t : Fin cfg0.N) (b : Fin 8) : Prop where
  out : ∀ r k : Fin 256, (outsAt0 m c t.val t.isLt).1 (ix3 0 r k)
    = Lru.H (P m c) (X m c b) k (256 * (t.val % 16) + (r.val + 1))
      * Lru.gelu ((iblk m c 0 t : FVec Ideal S1x256x512 .f32) (ix3 0 r ⟨256 + k.val, by have := k.isLt; omega⟩))
  next : Carried m c b (t.val % 16 + 1) (outsAt0 m c t.val t.isLt).2.1 (outsAt0 m c t.val t.isLt).2.2

/-- One point's recurrence, from its input blocks. -/
theorem point_row (c : Dev nD) (t : Fin cfg0.N) (b : Fin 8) (v8 v12 v17 v22 : Vec Ideal S256x256 .f32)
    (v9 v13 v18 v23 v158 : Vec Ideal S1x256 .f32)
    (h0 : ∀ r k : Fin 256, v8 (ix2 r k) = XT m c b (t.val % 16) k r.val)
    (h1 : ∀ r k : Fin 256, v12 (ix2 r k) = XT m c b (t.val % 16) k (r.val + 1))
    (h2 : ∀ r k : Fin 256, v17 (ix2 r k) = XT m c b (t.val % 16) k (r.val + 2))
    (h3 : ∀ r k : Fin 256, v22 (ix2 r k) = XT m c b (t.val % 16) k (r.val + 3))
    (hg : ∀ k : Fin 256, v158 (ix2 0 k) = Lru.H (P m c) (X m c b) k (256 * (t.val % 16)))
    (w0 : ∀ k : Fin 256, v9 (ix2 0 k) = (iblk m c 1 t : FVec Ideal S4x256 .f32) (ix2 0 k))
    (w1 : ∀ k : Fin 256, v13 (ix2 0 k) = (iblk m c 1 t : FVec Ideal S4x256 .f32) (ix2 1 k))
    (w2 : ∀ k : Fin 256, v18 (ix2 0 k) = (iblk m c 1 t : FVec Ideal S4x256 .f32) (ix2 2 k))
    (w3 : ∀ k : Fin 256, v23 (ix2 0 k) = (iblk m c 1 t : FVec Ideal S4x256 .f32) (ix2 3 k)) (r k : Fin 256) :
    tileAt v8 v9 v12 v13 v17 v18 v22 v23 (iblk m c 2 t) (iblk m c 3 t) (iblk m c 4 t) (iblk m c 5 t) (iblk m c 6 t) (iblk m c 7 t) v158 r k
      = Lru.H (P m c) (X m c b) k (256 * (t.val % 16) + (r.val + 1)) :=
  (tile_row (P m c) (XT m c b (t.val % 16)) v8 v12 v17 v22 v9 v13 v18 v23 (iblk m c 2 t) (iblk m c 3 t) (iblk m c 5 t)
    (iblk m c 4 t) (iblk m c 6 t) (iblk m c 7 t) v158 (fun k => Lru.H (P m c) (X m c b) k (256 * (t.val % 16))) h0 h1 h2 h3
    (fun k => (w0 k).trans (blk1 m c t 0 k)) (fun k => (w1 k).trans (blk1 m c t 1 k)) (fun k => (w2 k).trans (blk1 m c t 2 k))
    (fun k => (w3 k).trans (blk1 m c t 3 k)) (blk2 m c t)
    (fun f k => (Finset.sum_congr rfl fun x _ => congrArg (f x * ·) (blk3 m c t x k)).trans (diag_lin _ f k)) (blk4 m c t)
    (fun f k => (Finset.sum_congr rfl fun x _ => congrArg (f x * ·) (blk5 m c t x k)).trans (diag_lin _ f k)) (blk6 m c t)
    (blk7 m c t) hg r k).trans (Lru.H_shift (P m c) (X m c b) k (256 * (t.val % 16)) (r.val + 1))

/-- The rows kept at a sequence's start are zeros, and so is the convolution's input there. -/
theorem zero_old (c : Dev nD) (t : Fin cfg0.N) (b : Fin 8) (h0 : t.val % 16 = 0) (v : View sig .tc .vmem S264x256 .f32) (f : v.ty.Contents (Elt Ideal))
    (inb : ∀ a, (![0, 0] : Fin 2 → ℕ) a + (![8, 256] : Fin 2 → ℕ) a ≤ S264x256.size a) (i : Fin 3) (k : Fin 256) :
    v.read (Elt Ideal) (v.writes (Elt Ideal) f [⟨Rect.unit (s := S264x256) ![0, 0] ![8, 256] inb, k0_pay4 (F := Ideal)⟩]) (ix2 ⟨5 + i.val, by omega⟩ k)
      = XT m c b (t.val % 16) k i.val := by
  have hi := i.isLt
  refine (View.read_writes_cons_rows_of_mem v f inb _ [] _ (ix2 ⟨5 + i.val, by omega⟩ k) rfl (Nat.zero_add _).symm rfl).trans ?_
  have e : k0_pay4 (F := Ideal) (ix2 ⟨5 + i.val, by omega⟩ k) = 0 := by
    pointwise [k0_pay4]
  rw [e]
  unfold XT X Lru.inp
  rw [dif_neg (by omega)]

/-- A point that goes on with a sequence leaves its tile's results and the state for the next. -/
theorem left_B (c : Dev nD) (t : Fin cfg0.N) (b : Fin 8) (hb : b.val = t.val / 16) (h0 : ¬t.val % 16 = 0)
    (hc : Carried m c b (t.val % 16) (outsAt0 m c (t.val - 1) (by have := t.isLt; omega)).2.1 (outsAt0 m c (t.val - 1) (by have := t.isLt; omega)).2.2) : Left m c t b := by
  have hn : ∀ (inb : ∀ a, (![0, 0, 0] : Fin 3 → ℕ) a + (![1, 256, 256] : Fin 3 → ℕ) a ≤ S1x256x512.size a) (r k : Fin 256),
      View.ld (iblk m c 0 t) (Rect.unit (s := S1x256x512) ![0, 0, 0] ![1, 256, 256] inb) (ix3 0 r k) = XT m c b (t.val % 16) k (r.val + 3) := by
    intro inb r k
    pointwise
    exact inp_new m c t b hb r k
  have ho : ∀ (h : (Memref.whole cc0_scratch0).IsWhole) (i : Fin 3) (k : Fin 256), View.read (Elt Ideal) (View.whole cc0_scratch0)
      (h.unread (outsAt0 m c (t.val - 1) (by have := t.isLt; omega)).2.1) (ix2 ⟨5 + i.val, by omega⟩ k) = XT m c b (t.val % 16) k i.val := by
    intro h i k
    rw [read_unread_whole]
    exact hc.pad i k
  refine ⟨fun r k => ?_, ⟨fun i k => ?_, fun k => ?_⟩⟩
  · rw [outsAt0_B m c t h0]
    frame_out
    rw [pay3_row]
    refine congrArg₂ (· * ·) (point_row m c t b _ _ _ _ _ _ _ _ _ ?_ ?_ ?_ ?_ ?_ ?_ ?_ ?_ ?_ r k) ?_
    · exact fun r k => pad_ld _ _ _ _ (XT m c b (t.val % 16)) (ho _) (hn _) 5 0 rfl (by omega) _ r k
    · exact fun r k => pad_ld _ _ _ _ (XT m c b (t.val % 16)) (ho _) (hn _) 6 1 rfl (by omega) _ r k
    · exact fun r k => pad_ld _ _ _ _ (XT m c b (t.val % 16)) (ho _) (hn _) 7 2 rfl (by omega) _ r k
    · exact fun r k => own_cov _ _ _ _ (XT m c b (t.val % 16)) (hn _) r k
    · intro k
      rw [read_unread_whole]
      refine Eq.trans ?_ (hc.h k)
      pointwise
    · exact fun k => by pointwise
    · exact fun k => by pointwise
    · exact fun k => by pointwise
    · exact fun k => by pointwise
    · pointwise
  · rw [outsAt0_B m c t h0]
    dsimp only
    unfold sout0_B_0
    frame_out
    refine (keep_row _ _ _ i k).trans ((pay9_row _ _ k).trans ((hn _ _ k).trans ?_))
    exact congrArg (X m c b k) (by show 256 * (t.val % 16) + (248 + (5 + i.val) + 3) = 256 * (t.val % 16 + 1) + i.val; omega)
  · rw [outsAt0_B m c t h0]
    dsimp only
    unfold sout0_B_1
    frame_out
    rw [pay2_row]
    refine (point_row m c t b _ _ _ _ _ _ _ _ _ ?_ ?_ ?_ ?_ ?_ ?_ ?_ ?_ ?_ 255 k).trans ?_
    · exact fun r k => pad_ld _ _ _ _ (XT m c b (t.val % 16)) (ho _) (hn _) 5 0 rfl (by omega) _ r k
    · exact fun r k => pad_ld _ _ _ _ (XT m c b (t.val % 16)) (ho _) (hn _) 6 1 rfl (by omega) _ r k
    · exact fun r k => pad_ld _ _ _ _ (XT m c b (t.val % 16)) (ho _) (hn _) 7 2 rfl (by omega) _ r k
    · exact fun r k => own_cov _ _ _ _ (XT m c b (t.val % 16)) (hn _) r k
    · intro k
      rw [read_unread_whole]
      refine Eq.trans ?_ (hc.h k)
      pointwise
    · exact fun k => by pointwise
    · exact fun k => by pointwise
    · exact fun k => by pointwise
    · exact fun k => by pointwise
    · rfl

/-- A point that starts a sequence leaves its tile's results and the state for the next. -/
theorem left_A (c : Dev nD) (t : Fin cfg0.N) (b : Fin 8) (hb : b.val = t.val / 16) (h0 : t.val % 16 = 0) : Left m c t b := by
  have hn : ∀ (inb : ∀ a, (![0, 0, 0] : Fin 3 → ℕ) a + (![1, 256, 256] : Fin 3 → ℕ) a ≤ S1x256x512.size a) (r k : Fin 256),
      View.ld (iblk m c 0 t) (Rect.unit (s := S1x256x512) ![0, 0, 0] ![1, 256, 256] inb) (ix3 0 r k) = XT m c b (t.val % 16) k (r.val + 3) := by
    intro inb r k
    pointwise
    exact inp_new m c t b hb r k
  refine ⟨fun r k => ?_, ⟨fun i k => ?_, fun k => ?_⟩⟩
  · rw [outsAt0_A m c t h0]
    frame_out
    rw [pay3_row]
    refine congrArg₂ (· * ·) (point_row m c t b _ _ _ _ _ _ _ _ _ ?_ ?_ ?_ ?_ ?_ ?_ ?_ ?_ ?_ r k) ?_
    · exact fun r k => pad_cov _ _ _ _ (XT m c b (t.val % 16)) (zero_old m c t b h0 _ _ _) (hn _) 5 0 rfl (by omega) _ r k
    · exact fun r k => pad_cov _ _ _ _ (XT m c b (t.val % 16)) (zero_old m c t b h0 _ _ _) (hn _) 6 1 rfl (by omega) _ r k
    · exact fun r k => pad_cov _ _ _ _ (XT m c b (t.val % 16)) (zero_old m c t b h0 _ _ _) (hn _) 7 2 rfl (by omega) _ r k
    · exact fun r k => own_cov _ _ _ _ (XT m c b (t.val % 16)) (hn _) r k
    · intro k
      rw [zero_cov, h0]
      rfl
    · exact fun k => by pointwise
    · exact fun k => by pointwise
    · exact fun k => by pointwise
    · exact fun k => by pointwise
    · pointwise
  · rw [outsAt0_A m c t h0]
    dsimp only
    unfold sout0_A_0
    frame_out
    refine (keep_row _ _ _ i k).trans ((pay9_row _ _ k).trans ((hn _ _ k).trans ?_))
    exact congrArg (X m c b k) (by show 256 * (t.val % 16) + (248 + (5 + i.val) + 3) = 256 * (t.val % 16 + 1) + i.val; omega)
  · rw [outsAt0_A m c t h0]
    dsimp only
    unfold sout0_A_1
    frame_out
    rw [pay2_row]
    refine (point_row m c t b _ _ _ _ _ _ _ _ _ ?_ ?_ ?_ ?_ ?_ ?_ ?_ ?_ ?_ 255 k).trans ?_
    · exact fun r k => pad_cov _ _ _ _ (XT m c b (t.val % 16)) (zero_old m c t b h0 _ _ _) (hn _) 5 0 rfl (by omega) _ r k
    · exact fun r k => pad_cov _ _ _ _ (XT m c b (t.val % 16)) (zero_old m c t b h0 _ _ _) (hn _) 6 1 rfl (by omega) _ r k
    · exact fun r k => pad_cov _ _ _ _ (XT m c b (t.val % 16)) (zero_old m c t b h0 _ _ _) (hn _) 7 2 rfl (by omega) _ r k
    · exact fun r k => own_cov _ _ _ _ (XT m c b (t.val % 16)) (hn _) r k
    · intro k
      rw [zero_cov, h0]
      rfl
    · exact fun k => by pointwise
    · exact fun k => by pointwise
    · exact fun k => by pointwise
    · exact fun k => by pointwise
    · rfl

/-- Every point leaves its tile's results. -/
theorem left (c : Dev nD) : ∀ (n : ℕ) (hn : n < cfg0.N) (b : Fin 8), b.val = n / 16 → Left m c ⟨n, hn⟩ b
  | 0, hn, b, hb => left_A m c ⟨0, hn⟩ b hb (by simp)
  | n + 1, hn, b, hb => by
    by_cases h0 : (n + 1) % 16 = 0
    · exact left_A m c ⟨n + 1, hn⟩ b hb h0
    · have ih := (left c n (by omega) b (by omega)).next
      have e : n % 16 + 1 = (n + 1) % 16 := by omega
      refine left_B m c ⟨n + 1, hn⟩ b hb h0 ?_
      have ih' := e ▸ ih
      exact ih'
end Cert.LruIdeal.State

end
-- ==== Proof.LruFinal.lean ====
module

public import proofs.«01_k».proof.Proof.LruState

@[expose] public section

set_option maxRecDepth 16384

noncomputable section

/-! # The recurrence kernel's result -/

namespace Cert.LruIdeal.Final

open Cert.LruIdeal Cert.LruIdeal.Gen Cert.LruIdeal.Pure Cert.LruIdeal.Blocks Cert.LruIdeal.State
open Idealize.ShloMosaic Idealize.ShloMosaic.TcCoe Idealize.SL.Sem
open Idealize.ShloMosaic.Pipeline (Dat)

variable (m : (ℓ : Loc nD τ sig) → Buf (Elt Ideal) ℓ)

/-- The output array is the branch's result. -/
theorem out_final (c : Dev nD) : (dats m 0 c).arrAt 8 (cfgs 0).N = Lru.G (m ((c : Thread nD τ).loc main_arg0)) (P m c) := by
  refine (dats m 0 c).arrAt_eq_of_covers 8 _ (by decide +kernel) fun t hf y => ?_
  blk_simp
  rw [after0_8]
  idx_vars y
  have ht : t.val < 128 := lt_of_lt_of_eq t.isLt N_0
  have h1 := y1.isLt
  have h2 := y2.isLt
  obtain rfl : y0 = 0 := Fin.ext (by have := y0.isLt; show y0.val = 0; omega)
  have he : ((View.whole main_v30).slice (win0_8.rect t)).emb (ix3 0 y1 y2)
      = ix3 (⟨t.val / 16, by omega⟩ : Fin 8) (⟨256 * (t.val % 16) + y1.val, by omega⟩ : Fin 4096) y2 := by
    blk_ext [idx t]
  rw [he]
  refine ((left m c t.val t.isLt ⟨t.val / 16, by omega⟩ rfl).out y1 y2).trans ?_
  unfold Lru.G
  rw [blk0 m c t ⟨t.val / 16, by omega⟩ rfl y1 ⟨256 * (t.val % 16) + y1.val, by omega⟩ rfl]
  simp only [ix3_0, ix3_1, ix3_2]
  rfl

end Cert.LruIdeal.Final

end
-- ==== Proof.LruRefLoop.lean ====
module

public import proofs.«01_k».proof.Proof.Scan
public import proofs.«01_k».proof.Proof.Gen.LruRefIdeal.Run
public import Idealize.ShloMosaic.Lib.Pipeline.ValueKit
public import Idealize.ShloMosaic.Lib.Claim
public import Idealize.ShloMosaic.Lib.DynamicIndex
public import Idealize.ShloMosaic.Lib.WordCmp

@[expose] public section

set_option maxRecDepth 16384

noncomputable section

/-! # The reference's loop over the positions -/

namespace Cert.LruRefIdeal.Loop

open Cert.LruRefIdeal Cert.LruRefIdeal.Gen Cert.LruRefIdeal.Value Idealize.ShloMosaic Idealize.ShloMosaic.TcCoe Idealize.SL.Sem

theorem slice_row (x : FVec Ideal S4096x8x256 .f32) (k : Fin 4096) (start : Fin 3 → Int) (h : S4096x8x256.Slices (fun _ => 0) S1x8x256)
    (hs : ∀ a, start a = ((![k.val, 0, 0] : Fin 3 → ℕ) a : Int)) (hc : S1x8x256.ShapeCasts S8x256) (b : Fin 8) (c : Fin 256) :
    shapeCast S8x256 (Host.dynamicSlice S1x8x256 x start h) hc (ix2 b c) = x (ix3 k b c) := by
  have hk : S4096x8x256.Slices (![k.val, 0, 0] : Fin 3 → ℕ) S1x8x256 :=
    ⟨rfl, fun a => by have := k.isLt; fin_cases a <;> simp <;> omega⟩
  rw [Host.dynamicSlice_eq_extractStridedSlice S1x8x256 x start ![k.val, 0, 0] h hk hs]
  pointwise

theorem update_row (x : FVec Ideal S4096x8x256 .f32) (w : FVec Ideal S8x256 .f32) (k : Fin 4096) (start : Fin 3 → Int)
    (h : S4096x8x256.Slices (fun _ => 0) S1x8x256) (hb : S8x256.BroadcastsInDim S1x8x256 ![1, 2])
    (hs : ∀ a, start a = ((![k.val, 0, 0] : Fin 3 → ℕ) a : Int)) (n : Fin 4096) (b : Fin 8) (c : Fin 256) :
    Host.dynamicUpdateSlice x (broadcastInDim S1x8x256 ![1, 2] hb w) start h (ix3 n b c)
      = if n.val = k.val then w (ix2 b c) else x (ix3 n b c) := by
  have hk : S4096x8x256.Slices (![k.val, 0, 0] : Fin 3 → ℕ) S1x8x256 :=
    ⟨rfl, fun a => by have := k.isLt; fin_cases a <;> simp <;> omega⟩
  rw [WordCmp.dynamicUpdateSlice_eq_update x _ start h ![k.val, 0, 0] hk hs]
  unfold updateSlice
  by_cases e : n.val = k.val
  · rw [dif_pos (by intro a; fin_cases a <;> simp [e]), if_pos e]
    pointwise
  · rw [dif_neg (by intro hh; have := hh 0; simp at this; omega), if_neg e]

/-- The loop's start index is the trip's number. -/
theorem start_eq (k : Fin 4096) (v : IVec S_ 32) (hv : v = fun _ => BitVec.ofNat 32 k.val) (i : S_.Idx) (a : Fin 3) :
    ((![v, constantI S_ 32 0#32, constantI S_ 32 0#32] : Fin 3 → IVec S_ 32) a i).toInt = ((![k.val, 0, 0] : Fin 3 → ℕ) a : Int) := by
  subst hv
  fin_cases a
  · exact toInt_ofNat_of_lt (by have := k.isLt; omega)
  · rfl
  · rfl

/-- The loop after `k` trips, from contents `V` that hold the coefficients, the inputs and the gates, and zeros. -/
theorem after_trips (V : Valuation τ sig (Elt Ideal)) (a u g : Fin 4096 → Fin 8 → Fin 256 → EReal)
    (ha : ∀ n b c, (V (Proc.devRef .tc main_v94_0) : FVec Ideal S4096x8x256 .f32) (ix3 n b c) = a n b c)
    (hu : ∀ n b c, (V (Proc.devRef .tc main_v94_1) : FVec Ideal S4096x8x256 .f32) (ix3 n b c) = u n b c)
    (hg : ∀ n b c, (V (Proc.devRef .tc main_v94_2) : FVec Ideal S4096x8x256 .f32) (ix3 n b c) = g n b c)
    (A U : Fin 8 → Fin 256 → ℕ → EReal) (hA : ∀ (n : Fin 4096) b c, a n b c = A b c n.val) (hU : ∀ (n : Fin 4096) b c, u n b c = U b c n.val)
    (hi : (V (Proc.devRef .tc main_v94_3) : IVec S_ 32) = fun _ => BitVec.ofNat 32 0)
    (hh : ∀ b c, (V (Proc.devRef .tc main_v94_4) : FVec Ideal S8x256 .f32) (ix2 b c) = (0 : EReal)) :
    ∀ k, k ≤ 4096 →
      (STEP^[k] V (Proc.devRef .tc main_v94_0) = V (Proc.devRef .tc main_v94_0)
        ∧ STEP^[k] V (Proc.devRef .tc main_v94_1) = V (Proc.devRef .tc main_v94_1)
        ∧ STEP^[k] V (Proc.devRef .tc main_v94_2) = V (Proc.devRef .tc main_v94_2))
      ∧ (STEP^[k] V (Proc.devRef .tc main_v94_3) : IVec S_ 32) = (fun _ => BitVec.ofNat 32 k)
      ∧ (∀ b c, (STEP^[k] V (Proc.devRef .tc main_v94_4) : FVec Ideal S8x256 .f32) (ix2 b c) = Scan.hseq (A b c) (U b c) 0 k)
      ∧ ∀ (n : Fin 4096) b c, n.val < k → (STEP^[k] V (Proc.devRef .tc main_v94_5) : FVec Ideal S4096x8x256 .f32) (ix3 n b c)
          = Scan.hseq (A b c) (U b c) 0 (n.val + 1) * g n b c
  | 0, _ => ⟨⟨rfl, rfl, rfl⟩, hi, hh, fun n _ _ h => absurd h (Nat.not_lt_zero _)⟩
  | k + 1, hk => by
    obtain ⟨⟨e0, e1, e2⟩, e3, e4, e5⟩ := after_trips V a u g ha hu hg A U hA hU hi hh k (by omega)
    rw [Function.iterate_succ_apply', STEP_main_v94_0, STEP_main_v94_1, STEP_main_v94_2, STEP_main_v94_3, STEP_main_v94_4, STEP_main_v94_5]
    generalize STEP^[k] V = W at e0 e1 e2 e3 e4 e5
    have hv : ∀ b c, (res_main_while0b_v100 W : FVec Ideal S8x256 .f32) (ix2 b c) = Scan.hseq (A b c) (U b c) 0 (k + 1) := by
      intro b c
      unfold res_main_while0b_v100
      refine congrArg₂ (· + ·) (congrArg₂ (· * ·) ?_ (e4 b c)) ?_
      · refine (slice_row _ ⟨k, by omega⟩ _ _ (start_eq ⟨k, by omega⟩ _ e3 _) _ b c).trans ?_
        rw [e0]
        exact (ha _ b c).trans (hA _ b c)
      · refine (slice_row _ ⟨k, by omega⟩ _ _ (start_eq ⟨k, by omega⟩ _ e3 _) _ b c).trans ?_
        rw [e1]
        exact (hu _ b c).trans (hU _ b c)
    refine ⟨⟨e0, e1, e2⟩, ?_, hv, fun n b c hn => ?_⟩
    · unfold step_main_v94_3
      rw [e3]
      funext i
      exact (BitVec.ofNat_add k 1).symm
    · unfold step_main_v94_5
      refine (update_row _ _ ⟨k, by omega⟩ _ _ _ (start_eq ⟨k, by omega⟩ _ e3 _) n b c).trans ?_
      by_cases e : n.val = k
      · rw [if_pos e]
        subst e
        refine congrArg₂ (· * ·) (hv b c) ?_
        refine (slice_row _ n _ _ (start_eq n _ e3 _) _ b c).trans ?_
        rw [e2]
        exact hg _ b c
      · rw [if_neg e]
        exact e5 n b c (by omega)

end Cert.LruRefIdeal.Loop

end
-- ==== Proof.LruRefPure.lean ====
module

public import proofs.«01_k».proof.Proof.LruBlocks
public import proofs.«01_k».proof.Proof.Gen.LruRefIdeal.Run
public import Idealize.ShloMosaic.Lib.Pipeline.ValueKit
public import Idealize.ShloMosaic.Lib.Claim
public import Idealize.ShloMosaic.Lib.StableHlo.ReadAt

@[expose] public section

set_option maxRecDepth 16384

noncomputable section

/-! # The reference's coefficients, inputs and gates -/

namespace Cert.LruRefIdeal.Entry

open Cert.LruRefIdeal Cert.LruRefIdeal.Gen Cert.LruRefIdeal.Value Idealize.ShloMosaic Idealize.ShloMosaic.TcCoe Idealize.SL.Sem
open Idealize.ShloMosaic.StableHlo Idealize.ShloMosaic.Pipeline Idealize.ShloMosaic.HostLoop

/-- The gelu, as the reference computes it. -/
theorem gelu_at (x : EReal) :
    x * (Ideal.ofBits .f32 0x3F000000#32 * (1 + Ideal.tanh (Ideal.ofBits .f32 0x3F4C422A#32
      * (x + Ideal.ofBits .f32 0x3D372713#32 * (x * x * x))))) = Lru.gelu x := by
  unfold Lru.gelu
  rw [mul_assoc x x x]

variable (m : (ℓ : Loc nD τ sig) → Buf (Elt Ideal) ℓ)

/-- One tap's input: a padded position. -/
theorem tap (x0 : FVec Ideal S8x4096x512 .f32) (b : Fin 8) (k : Fin 256) (n : ℕ) (P : Prop) [Decidable P] (f : P → EReal) (z : EReal)
    (hP : P ↔ 3 ≤ n ∧ n < 4099) (hf : ∀ (h : P) (hn : n - 3 < 4096), f h = x0 (ix3 b ⟨n - 3, hn⟩ ⟨k.val, by omega⟩)) (hz : z = 0) :
    (if h : P then f h else z) = Lru.inp x0 b k n := by
  unfold Lru.inp
  by_cases h : P
  · rw [dif_pos h, dif_pos (hP.mp h)]
    exact hf h _
  · rw [dif_neg h, dif_neg (fun hh => h (hP.mpr hh)), hz]

theorem pad_zero : FloatOps.sitofp (F := Ideal) (w := 32) FTy.f32 0#32 = (0 : EReal) := by
  show ((((0#32 : BitVec 32).toInt : ℝ)) : EReal) = 0
  simp

variable (x0 : FVec Ideal S8x4096x512 .f32) (x1 : FVec Ideal S4x256 .f32) (x2 : FVec Ideal S256 .f32) (x3 : FVec Ideal S4x64x64 .f32)
  (x4 : FVec Ideal S256 .f32) (x5 : FVec Ideal S4x64x64 .f32) (x6 x7 : FVec Ideal S256 .f32)

/-- The convolution, at a channel of a block. -/
theorem conv_blk (b : Fin 8) (n : Fin 4096) (k : Fin 256) (i : ℕ) (hi : i = k.val) (hi' : i < 256) :
    (if h : (3 ≤ n.val ∧ n.val - 3 < 4096) ∧ i < 256 then x0 (ix3 b ⟨n.val - 3, h.1.2⟩ ⟨i, by omega⟩)
        else FloatOps.sitofp (F := Ideal) (w := 32) FTy.f32 0#32) * x1 (ix2 0 ⟨i, hi'⟩)
      + (if h : (3 ≤ 1 + n.val ∧ 1 + n.val - 3 < 4096) ∧ i < 256 then x0 (ix3 b ⟨1 + n.val - 3, h.1.2⟩ ⟨i, by omega⟩)
        else FloatOps.sitofp (F := Ideal) (w := 32) FTy.f32 0#32) * x1 (ix2 1 ⟨i, hi'⟩)
      + (if h : (3 ≤ 2 + n.val ∧ 2 + n.val - 3 < 4096) ∧ i < 256 then x0 (ix3 b ⟨2 + n.val - 3, h.1.2⟩ ⟨i, by omega⟩)
        else FloatOps.sitofp (F := Ideal) (w := 32) FTy.f32 0#32) * x1 (ix2 2 ⟨i, hi'⟩)
      + (if h : i < 256 then x0 (ix3 b n ⟨i, by omega⟩)
        else FloatOps.sitofp (F := Ideal) (w := 32) FTy.f32 0#32) * x1 (ix2 3 ⟨i, hi'⟩)
      + x2 (ix1 ⟨i, hi'⟩)
      = Lru.conv (Lru.par x1 x2 x3 x4 x5 x6 x7) (Lru.inp x0 b) k n.val := by
  subst hi
  have hn := n.isLt
  unfold Lru.conv
  refine congrArg₂ (· + ·) (congrArg₂ (· + ·) (congrArg₂ (· + ·) (congrArg₂ (· + ·) ?_ ?_) ?_) ?_) rfl
  · exact congrArg (· * x1 (ix2 0 k)) (tap x0 b k _ _ _ _ (by omega) (fun _ _ => rfl) pad_zero)
  · exact congrArg (· * x1 (ix2 1 k)) (tap x0 b k _ _ _ _ (by omega)
      (fun _ _ => congrArg (fun j => x0 (ix3 b j _)) (Fin.ext (by show 1 + n.val - 3 = n.val + 1 - 3; omega))) pad_zero)
  · exact congrArg (· * x1 (ix2 2 k)) (tap x0 b k _ _ _ _ (by omega)
      (fun _ _ => congrArg (fun j => x0 (ix3 b j _)) (Fin.ext (by show 2 + n.val - 3 = n.val + 2 - 3; omega))) pad_zero)
  · exact congrArg (· * x1 (ix2 3 k)) (tap x0 b k _ _ _ _ (by omega)
      (fun _ _ => congrArg (fun j => x0 (ix3 b j _)) (Fin.ext (by show n.val = n.val + 3 - 3; omega))) pad_zero)

/-- The convolution, at a channel. -/
theorem conv_at (b : Fin 8) (n : Fin 4096) (k : Fin 256) :
    (if h : 3 ≤ n.val ∧ n.val - 3 < 4096 then x0 (ix3 b ⟨n.val - 3, h.2⟩ ⟨k.val, by omega⟩)
        else FloatOps.sitofp (F := Ideal) (w := 32) FTy.f32 0#32) * x1 (ix2 0 k)
      + (if h : 3 ≤ 1 + n.val ∧ 1 + n.val - 3 < 4096 then x0 (ix3 b ⟨1 + n.val - 3, h.2⟩ ⟨k.val, by omega⟩)
        else FloatOps.sitofp (F := Ideal) (w := 32) FTy.f32 0#32) * x1 (ix2 1 k)
      + (if h : 3 ≤ 2 + n.val ∧ 2 + n.val - 3 < 4096 then x0 (ix3 b ⟨2 + n.val - 3, h.2⟩ ⟨k.val, by omega⟩)
        else FloatOps.sitofp (F := Ideal) (w := 32) FTy.f32 0#32) * x1 (ix2 2 k)
      + x0 (ix3 b n ⟨k.val, by omega⟩) * x1 (ix2 3 k)
      + x2 (ix1 k)
      = Lru.conv (Lru.par x1 x2 x3 x4 x5 x6 x7) (Lru.inp x0 b) k n.val := by
  refine Eq.trans ?_ (conv_blk x0 x1 x2 x3 x4 x5 x6 x7 b n k k.val rfl k.isLt)
  have hk := k.isLt
  refine congrArg₂ (· + ·) (congrArg₂ (· + ·) (congrArg₂ (· + ·) (congrArg₂ (· + ·) ?_ ?_) ?_) ?_) rfl
  · exact congrArg (· * x1 (ix2 0 k)) (dite_congr (by simp [hk]) (fun _ => rfl) (fun _ => rfl))
  · exact congrArg (· * x1 (ix2 1 k)) (dite_congr (by simp [hk]) (fun _ => rfl) (fun _ => rfl))
  · exact congrArg (· * x1 (ix2 2 k)) (dite_congr (by simp [hk]) (fun _ => rfl) (fun _ => rfl))
  · exact congrArg (· * x1 (ix2 3 k)) (dif_pos (t := fun _ => x0 (ix3 b n ⟨k.val, by omega⟩)) hk).symm

/-- The channel's decay, as the reference computes it. -/
theorem softplus_at (l : EReal) : (if -l ≠ -l then -l else max (-l) 0 + Ideal.log1p (Ideal.exp (-FloatOps.absf (F := Ideal) (φ := .f32) (-l))))
    = LruScalars.softplusNeg l := by
  rw [if_neg (fun h => h rfl)]
  unfold LruScalars.softplusNeg
  have e : FloatOps.absf (F := Ideal) (φ := .f32) (-l) = max l (-l) := by
    show max (-l) (- -l) = max l (-l)
    rw [neg_neg, max_comm]
  rw [e]

variable (m : (ℓ : Loc nD τ sig) → Buf (Elt Ideal) ℓ)

/-- The parameters in memory. -/
abbrev P (c : Dev nD) : Lru.Par :=
  Lru.par (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg7))

/-- The convolution's input of one sequence in memory. -/
abbrev X (c : Dev nD) (b : Fin 8) : Fin 256 → ℕ → EReal := Lru.inp (m ((c : Thread nD τ).loc main_arg0)) b

theorem gate (c : Dev nD) (n : Fin 4096) (b : Fin 8) (k : Fin 256) :
    (entryContents preI m c (Proc.devRef .tc main_v94_2) : FVec Ideal S4096x8x256 .f32) (ix3 n b k)
      = Lru.gelu ((m ((c : Thread nD τ).loc main_arg0) : FVec Ideal S8x4096x512 .f32) (ix3 b n ⟨256 + k.val, by omega⟩)) := by
  simp only [entryContents, afterL_cons, afterL_nil]
  after_reads_simp
  simp only [id_eq]
  pointwise
  exact gelu_at _

theorem coef (c : Dev nD) (n : Fin 4096) (b : Fin 8) (k : Fin 256) :
    (entryContents preI m c (Proc.devRef .tc main_v94_0) : FVec Ideal S4096x8x256 .f32) (ix3 n b k) = Lru.A (P m c) (X m c b) k n.val := by
  simp only [entryContents, afterL_cons, afterL_nil]
  after_reads_simp
  simp only [id_eq, TRef.toBuf, TRef.ofBuf, cast_eq]
  pointwise
  refine congrArg Ideal.exp (congrArg₂ (· * ·) (congrArg (Ideal.ofBits FTy.f32 3238002688#32 * ·) (congrArg Ideal.logistic
    (congrArg (· + _) (Finset.sum_congr rfl fun x _ => (mul_comm _ _).trans (congrArg₂ (· * ·) ?_ rfl))))) (softplus_at _))
  exact conv_blk _ _ _ _ _ _ _ _ b n (Lru.ch (Lru.blk k) x) _ (by show k.val / 64 * 64 + x.val = 64 * (k.val / 64) + x.val; omega) _

theorem input (c : Dev nD) (n : Fin 4096) (b : Fin 8) (k : Fin 256) :
    (entryContents preI m c (Proc.devRef .tc main_v94_1) : FVec Ideal S4096x8x256 .f32) (ix3 n b k) = Lru.U (P m c) (X m c b) k n.val := by
  simp only [entryContents, afterL_cons, afterL_nil]
  after_reads_simp
  simp only [id_eq, TRef.toBuf, TRef.ofBuf, cast_eq]
  pointwise
  have hc : ∀ x : Fin 64, k.val / 64 * 64 + x.val = (Lru.ch (Lru.blk k) x).val := fun x => by
    show k.val / 64 * 64 + x.val = 64 * (k.val / 64) + x.val; omega
  refine congrArg₂ (· * ·) (congrArg (fun z => Ideal.sqrt (max (-(Ideal.exp (Ideal.ofBits .f32 0x40000000#32 * z) - 1)) 0))
    (congrArg₂ (· * ·) (congrArg (Ideal.ofBits FTy.f32 3238002688#32 * ·) (congrArg Ideal.logistic
      (congrArg (· + _) (Finset.sum_congr rfl fun x _ => (mul_comm _ _).trans (congrArg₂ (· * ·) ?_ rfl))))) (softplus_at _)))
    (congrArg₂ (· * ·) (congrArg Ideal.logistic
      (congrArg (· + _) (Finset.sum_congr rfl fun x _ => (mul_comm _ _).trans (congrArg₂ (· * ·) ?_ rfl)))) ?_)
  · exact conv_blk _ _ _ _ _ _ _ _ b n _ _ (hc x) _
  · exact conv_blk _ _ _ _ _ _ _ _ b n _ _ (hc x) _
  · exact conv_at _ _ _ _ _ _ _ _ b n k

end Cert.LruRefIdeal.Entry

end
-- ==== Proof.LruClaim.lean ====
module

public import proofs.«01_k».proof.Defs
public import proofs.«01_k».proof.Proof.LruFinal
public import proofs.«01_k».proof.Proof.LruRefLoop
public import proofs.«01_k».proof.Proof.LruRefPure
public import proofs.«01_k».proof.Proof.Gen.LruIdeal.Frame
public import Idealize.ShloMosaic.Lib.Claim
public import Idealize.ShloMosaic.Lib.Quiescent

@[expose] public section

set_option maxRecDepth 16384

noncomputable section

namespace Cert.LruRefIdeal.Entry

open Cert.LruRefIdeal Cert.LruRefIdeal.Gen Cert.LruRefIdeal.Value Idealize.ShloMosaic Idealize.ShloMosaic.TcCoe Idealize.SL.Sem
open Idealize.ShloMosaic.StableHlo Idealize.ShloMosaic.Pipeline Idealize.ShloMosaic.HostLoop

variable (m : (ℓ : Loc nD τ sig) → Buf (Elt Ideal) ℓ)

/-- The recurrence starts from zero. -/
theorem start (c : Dev nD) (b : Fin 8) (k : Fin 256) :
    (entryContents preI m c (Proc.devRef .tc main_v94_4) : FVec Ideal S8x256 .f32) (ix2 b k) = (0 : EReal) := by
  simp only [entryContents, afterL_cons, afterL_nil]
  after_reads_simp
  simp only [id_eq]
  pointwise

/-- The reference's result. -/
theorem result (c : Dev nD) :
    (out_main_v95 (STEP^[4096] (entryContents preI m c)) : FVec Ideal S8x4096x256 .f32) = Lru.G (m ((c : Thread nD τ).loc main_arg0)) (P m c) := by
  have h := (Loop.after_trips (entryContents preI m c) (fun n b k => Lru.A (P m c) (X m c b) k n.val) (fun n b k => Lru.U (P m c) (X m c b) k n.val)
    (fun n b k => Lru.gelu ((m ((c : Thread nD τ).loc main_arg0) : FVec Ideal S8x4096x512 .f32) (ix3 b n ⟨256 + k.val, by omega⟩)))
    (coef m c) (input m c) (gate m c) (fun b k => Lru.A (P m c) (X m c b) k) (fun b k => Lru.U (P m c) (X m c b) k)
    (fun _ _ _ => rfl) (fun _ _ _ => rfl) (ctr_entry m c) (start m c) 4096 le_rfl).2.2.2
  funext y
  idx_vars y
  unfold out_main_v95
  pointwise
  exact h y1 y0 y2 y1.isLt

end Cert.LruRefIdeal.Entry

namespace Cert.LruClaim

open Idealize.ShloMosaic Idealize.SL.Sem

/-- The kernel and the reference, read over the extended reals, end with equal results. -/
theorem algebraic : Cert.algebraic_LruIdeal_LruRefIdeal (hLruIdeal := Cert.LruIdeal.Gen.facts)
    (hLruRefIdeal := Cert.LruRefIdeal.Gen.facts) := by
  intro m ρ m' ρ' _ hag
  refine ⟨_, (θ_run Cert.LruIdeal.defs _ _).mono (fun r h c => ⟨(h c).1.trans (Cert.LruIdeal.Final.out_final m c), (h c).2⟩)
    (Cert.LruIdeal.Value.run_blocks (F := Ideal) m ρ),
    (θ_run Cert.LruRefIdeal.defs _ _).mono (fun r h c => ⟨(h c).1.trans ((Cert.LruRefIdeal.Entry.result m' c).trans ?_), (h c).2⟩)
      (Cert.LruRefIdeal.Value.run (F := Ideal) m' ρ')⟩
  obtain ⟨h0, h1, h2, h3, h4, h5, h6, h7⟩ := hag c
  unfold Cert.LruRefIdeal.Entry.P
  rw [h0, h1, h2, h3, h4, h5, h6, h7]

/-- The reference runs and leaves its arguments unchanged. -/
theorem ref_frame : Cert.quiescent_LruRefIdeal (hLruRefIdeal := Cert.LruRefIdeal.Gen.facts) := fun m ρ _ =>
  (θ_run Cert.LruRefIdeal.defs _ _).mono (fun r h => ⟨fun c => (h c).2, sem_eq_zero_of_no_sems (by decide) r.2⟩)
    (Cert.LruRefIdeal.Value.run (F := Ideal) m ρ)

end Cert.LruClaim

end
-- ==== Proof.MergeClaim.lean ====
module

public import proofs.«01_k».proof.Defs
public import proofs.«01_k».proof.Proof.MergeFinal
public import proofs.«01_k».proof.Proof.MergeRefPure
public import proofs.«01_k».proof.Proof.Gen.MergeRefIdeal.Run
public import proofs.«01_k».proof.Proof.Gen.MergeRefIdeal.Read
public import proofs.«01_k».proof.Proof.Gen.MergeIdeal.Frame
public import Idealize.ShloMosaic.Lib.Claim
public import Idealize.ShloMosaic.Lib.Quiescent

@[expose] public section

set_option maxRecDepth 16384

noncomputable section

namespace Cert.MergeClaim

open Idealize.ShloMosaic Idealize.SL.Sem

/-- The reference's result array is the array the kernel's result was shown to be. -/
theorem ref_eq (x0 : FVec Ideal Cert.MergeIdeal.S32768x1024 .f32) (x1 x2 x3 x4 : FVec Ideal Cert.MergeIdeal.S32768x256 .f32)
    (x5 : FVec Ideal Cert.MergeIdeal.S1024 .f32) (x6 : FVec Ideal Cert.MergeIdeal.S1024x4096 .f32)
    (x7 : FVec Ideal Cert.MergeIdeal.S4096 .f32) (x8 x9 x10 x11 : FVec Ideal Cert.MergeIdeal.S256x1024 .f32)
    (x12 : FVec Ideal Cert.MergeIdeal.S1024x1024 .f32) (x13 : FVec Ideal Cert.MergeIdeal.S1024 .f32)
    (x14 : FVec Ideal Cert.MergeIdeal.S1024x4096 .f32) (x15 : FVec Ideal Cert.MergeIdeal.S4096x1024 .f32)
    (x16 : FVec Ideal Cert.MergeIdeal.S1024 .f32) :
    Cert.MergeRefIdeal.Read.val_main_v76 (F := Ideal) x0 x1 x2 x3 x4 x5 x6 x7 x8 x9 x10 x11 x12 x13 x14 x15 x16
      = Cert.MergeIdeal.Final.G x0 x1 x2 x3 x4 x5 x6 x7 x8 x9 x10 x11 x12 x13 x14 x15 x16 := by
  funext y
  idx_vars y
  refine (Cert.MergeRefIdeal.Pure.v76_apply ..).trans ?_
  simp only [Cert.MergeRefIdeal.Pure.v63_apply, Cert.MergeRefIdeal.Pure.v44_apply]
  rfl

/-- The reference's result, as the run leaves it, is that array of its own arguments. -/
theorem ref_result (m : (ℓ : Loc Cert.MergeRefIdeal.nD Cert.MergeRefIdeal.τ Cert.MergeRefIdeal.sig) → Buf (Elt Ideal) ℓ)
    (ρ : Dev Cert.MergeRefIdeal.nD → PrngReg) :
    θ_run (Cert.MergeRefIdeal.defs (F := Ideal)) (onTc (τ := Cert.MergeRefIdeal.τ) (Cert.MergeRefIdeal.main (F := Ideal))) ⟨m, fun _ => 0, ρ⟩ fun r => ∀ c : Dev Cert.MergeRefIdeal.nD,
      r.2.mem ((c.tc : Thread Cert.MergeRefIdeal.nD Cert.MergeRefIdeal.τ).loc Cert.MergeRefIdeal.main_v76)
        = Cert.MergeIdeal.Final.G
            (m ((c.tc : Thread Cert.MergeRefIdeal.nD Cert.MergeRefIdeal.τ).loc Cert.MergeRefIdeal.main_arg0))
            (m ((c.tc : Thread Cert.MergeRefIdeal.nD Cert.MergeRefIdeal.τ).loc Cert.MergeRefIdeal.main_arg1))
            (m ((c.tc : Thread Cert.MergeRefIdeal.nD Cert.MergeRefIdeal.τ).loc Cert.MergeRefIdeal.main_arg2))
            (m ((c.tc : Thread Cert.MergeRefIdeal.nD Cert.MergeRefIdeal.τ).loc Cert.MergeRefIdeal.main_arg3))
            (m ((c.tc : Thread Cert.MergeRefIdeal.nD Cert.MergeRefIdeal.τ).loc Cert.MergeRefIdeal.main_arg4))
            (m ((c.tc : Thread Cert.MergeRefIdeal.nD Cert.MergeRefIdeal.τ).loc Cert.MergeRefIdeal.main_arg5))
            (m ((c.tc : Thread Cert.MergeRefIdeal.nD Cert.MergeRefIdeal.τ).loc Cert.MergeRefIdeal.main_arg6))
            (m ((c.tc : Thread Cert.MergeRefIdeal.nD Cert.MergeRefIdeal.τ).loc Cert.MergeRefIdeal.main_arg7))
            (m ((c.tc : Thread Cert.MergeRefIdeal.nD Cert.MergeRefIdeal.τ).loc Cert.MergeRefIdeal.main_arg8))
            (m ((c.tc : Thread Cert.MergeRefIdeal.nD Cert.MergeRefIdeal.τ).loc Cert.MergeRefIdeal.main_arg9))
            (m ((c.tc : Thread Cert.MergeRefIdeal.nD Cert.MergeRefIdeal.τ).loc Cert.MergeRefIdeal.main_arg10))
            (m ((c.tc : Thread Cert.MergeRefIdeal.nD Cert.MergeRefIdeal.τ).loc Cert.MergeRefIdeal.main_arg11))
            (m ((c.tc : Thread Cert.MergeRefIdeal.nD Cert.MergeRefIdeal.τ).loc Cert.MergeRefIdeal.main_arg12))
            (m ((c.tc : Thread Cert.MergeRefIdeal.nD Cert.MergeRefIdeal.τ).loc Cert.MergeRefIdeal.main_arg13))
            (m ((c.tc : Thread Cert.MergeRefIdeal.nD Cert.MergeRefIdeal.τ).loc Cert.MergeRefIdeal.main_arg14))
            (m ((c.tc : Thread Cert.MergeRefIdeal.nD Cert.MergeRefIdeal.τ).loc Cert.MergeRefIdeal.main_arg15))
            (m ((c.tc : Thread Cert.MergeRefIdeal.nD Cert.MergeRefIdeal.τ).loc Cert.MergeRefIdeal.main_arg16))
      ∧ r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11)
      ∧ r.2.mem ((c.tc : Thread Cert.MergeRefIdeal.nD Cert.MergeRefIdeal.τ).loc Cert.MergeRefIdeal.main_arg12) = m ((c.tc : Thread Cert.MergeRefIdeal.nD Cert.MergeRefIdeal.τ).loc Cert.MergeRefIdeal.main_arg12)
      ∧ r.2.mem ((c.tc : Thread Cert.MergeRefIdeal.nD Cert.MergeRefIdeal.τ).loc Cert.MergeRefIdeal.main_arg13) = m ((c.tc : Thread Cert.MergeRefIdeal.nD Cert.MergeRefIdeal.τ).loc Cert.MergeRefIdeal.main_arg13)
      ∧ r.2.mem ((c.tc : Thread Cert.MergeRefIdeal.nD Cert.MergeRefIdeal.τ).loc Cert.MergeRefIdeal.main_arg14) = m ((c.tc : Thread Cert.MergeRefIdeal.nD Cert.MergeRefIdeal.τ).loc Cert.MergeRefIdeal.main_arg14)
      ∧ r.2.mem ((c.tc : Thread Cert.MergeRefIdeal.nD Cert.MergeRefIdeal.τ).loc Cert.MergeRefIdeal.main_arg15) = m ((c.tc : Thread Cert.MergeRefIdeal.nD Cert.MergeRefIdeal.τ).loc Cert.MergeRefIdeal.main_arg15)
      ∧ r.2.mem ((c.tc : Thread Cert.MergeRefIdeal.nD Cert.MergeRefIdeal.τ).loc Cert.MergeRefIdeal.main_arg16) = m ((c.tc : Thread Cert.MergeRefIdeal.nD Cert.MergeRefIdeal.τ).loc Cert.MergeRefIdeal.main_arg16) :=
  (θ_run Cert.MergeRefIdeal.defs _ _).mono (fun _ h c =>
      ⟨(h c).1.trans ((Cert.MergeRefIdeal.Read.val_main_v76_eq (F := Ideal) (StableHlo.launchContents m c)).trans (ref_eq ..)), (h c).2⟩)
    (Cert.MergeRefIdeal.Value.run (F := Ideal) m ρ)

/-- The kernel and the reference, read over the extended reals, end with equal results. -/
theorem algebraic : Cert.algebraic_MergeIdeal_MergeRefIdeal (hMergeIdeal := Cert.MergeIdeal.Gen.facts)
    (hMergeRefIdeal := Cert.MergeRefIdeal.Gen.facts) := by
  intro m ρ m' ρ' _ hag
  refine ⟨_, (θ_run Cert.MergeIdeal.defs _ _).mono (fun r h c => ⟨(h c).1.trans (Cert.MergeIdeal.Final.final m c), (h c).2⟩)
    (Cert.MergeIdeal.Value.run_blocks (F := Ideal) m ρ), (θ_run Cert.MergeRefIdeal.defs _ _).mono (fun r h c => ⟨(h c).1.trans ?_, (h c).2⟩) (ref_result m' ρ')⟩
  obtain ⟨h0, h1, h2, h3, h4, h5, h6, h7, h8, h9, h10, h11, h12, h13, h14, h15, h16⟩ := hag c
  rw [h0, h1, h2, h3, h4, h5, h6, h7, h8, h9, h10, h11, h12, h13, h14, h15, h16]

/-- The reference runs and leaves its arguments unchanged. -/
theorem ref_frame : Cert.quiescent_MergeRefIdeal (hMergeRefIdeal := Cert.MergeRefIdeal.Gen.facts) := fun m ρ _ =>
  (θ_run Cert.MergeRefIdeal.defs _ _).mono (fun r h => ⟨fun c => (h c).2, sem_eq_zero_of_no_sems (by decide) r.2⟩)
    (Cert.MergeRefIdeal.Value.run (F := Ideal) m ρ)

end Cert.MergeClaim

end
-- ==== Proof.InprojPure.lean ====
module

public import proofs.«01_k».proof.Proof.Rows
public import proofs.«01_k».proof.Proof.Gen.InprojIdeal.Skeleton
public import proofs.«01_k».proof.Proof.Gen.InprojRefIdeal.Read

@[expose] public section

set_option maxRecDepth 16384

noncomputable section

namespace Rows

open Idealize.ShloMosaic

/-- Column `o + l` of the input projection's 3712 columns, for a group of `n` columns that starts at column `o`. -/
def col {n : Nat} (o : Nat) (ho : o + n ≤ 3712) (l : Fin n) : Fin 3712 := ⟨o + l.val, by have := l.isLt; omega⟩

/-- The normalized row times one column of the projection. -/
def proj (x g w : Fin 1024 → EReal) : EReal := ∑ k, rms d1024 x g k * w k

/-- The number 128, as the programs write it. -/
def d128 : EReal := Ideal.ofBits .f32 0x43000000#32

end Rows

namespace Cert.InprojIdeal.Pure

open Cert.InprojIdeal Cert.InprojIdeal.Gen Idealize.ShloMosaic Idealize.ShloMosaic.TcCoe Idealize.SL.Sem

/-- The kernel's normalization at row `r`, channel `j`. -/
theorem pay6_apply (v0 : FVec Ideal S512x1024 .f32) (v1 : FVec Ideal S1x1024 .f32) (r : Fin 512) (j : Fin 1024) :
    k0_pay6 (F := Ideal) v0 v1 (ix2 r j) = Rows.rms Rows.d1024 (fun k => v0 (ix2 r k)) (fun k => v1 (ix2 0 k)) j := by
  pointwise [k0_pay6]
  rfl

variable {v0 : FVec Ideal S512x1024 .f32} {v1 : FVec Ideal S1x1024 .f32} {r : Fin 512} {x g : Fin 1024 → EReal}
  (hx : ∀ k, v0 (ix2 r k) = x k) (hg : ∀ k, v1 (ix2 0 k) = g k)
include hx hg

/-- The attention queries' group of columns. -/
theorem pay7_row {w : FVec Ideal S1024x640 .bf16} {j : Fin 640} {f : Fin 1024 → EReal} (hw : ∀ k, w (ix2 k j) = f k) :
    k0_pay7 (F := Ideal) v0 v1 w (ix2 r j) = Rows.proj x g f := by
  pointwise [k0_pay7, pay6_apply]
  simp only [hx, hg, hw]
  rfl

/-- The second branch's group of columns. -/
theorem pay3_row {w : FVec Ideal S1024x1152 .bf16} {j : Fin 1152} {f : Fin 1024 → EReal} (hw : ∀ k, w (ix2 k j) = f k) :
    k0_pay3 (F := Ideal) (k0_pay6 v0 v1) w (ix2 r j) = Rows.proj x g f := by
  pointwise [k0_pay3, pay6_apply]
  simp only [hx, hg, hw]
  rfl

/-- The third branch's group of columns. -/
theorem pay4_row {w : FVec Ideal S1024x512 .bf16} {j : Fin 512} {f : Fin 1024 → EReal} (hw : ∀ k, w (ix2 k j) = f k) :
    k0_pay4 (F := Ideal) (k0_pay6 v0 v1) w (ix2 r j) = Rows.proj x g f := by
  pointwise [k0_pay4, pay6_apply]
  simp only [hx, hg, hw]
  rfl

/-- The fourth branch's group of columns. -/
theorem pay5_row {w : FVec Ideal S1024x1024 .bf16} {j : Fin 1024} {f : Fin 1024 → EReal} (hw : ∀ k, w (ix2 k j) = f k) :
    k0_pay5 (F := Ideal) (k0_pay6 v0 v1) w (ix2 r j) = Rows.proj x g f := by
  pointwise [k0_pay5, pay6_apply]
  simp only [hx, hg, hw]
  rfl

/-- The indexer keys' columns, behind the 128 latent ones of their group. -/
theorem pay1_row {w : FVec Ideal S1024x384 .bf16} {j : Fin 256} {f : Fin 1024 → EReal}
    (hw : ∀ k, w (ix2 k (⟨128 + j.val, by have := j.isLt; omega⟩ : Fin 384)) = f k) :
    k0_pay1 (F := Ideal) (k0_pay8 v0 v1 w) (ix2 r j) = Rows.proj x g f := by
  pointwise [k0_pay1, k0_pay8, pay6_apply]
  simp only [hx, hg, hw]
  rfl

/-- The latent columns, normalized once more. -/
theorem pay9_row {w : FVec Ideal S1024x384 .bf16} {f : Fin 128 → Fin 1024 → EReal} {v22 : FVec Ideal S1x128 .f32} {q : Fin 128 → EReal}
    (hw : ∀ k (l : Fin 128), w (ix2 k (⟨l.val, by have := l.isLt; omega⟩ : Fin 384)) = f l k) (hq : ∀ l, v22 (ix2 0 l) = q l) (j : Fin 128) :
    k0_pay9 (F := Ideal) v0 v1 w v22 (ix2 r j) = Rows.rms Rows.d128 (fun l => Rows.proj x g (f l)) q j := by
  pointwise [k0_pay9, k0_pay8, pay6_apply]
  simp only [hx, hg, hw, hq]
  rfl

/-- The normalized latent columns as stored in the keys' array. -/
theorem pay10_row {w : FVec Ideal S1024x384 .bf16} {f : Fin 128 → Fin 1024 → EReal} {v22 : FVec Ideal S1x128 .f32} {q : Fin 128 → EReal}
    (hw : ∀ k (l : Fin 128), w (ix2 k (⟨l.val, by have := l.isLt; omega⟩ : Fin 384)) = f l k) (hq : ∀ l, v22 (ix2 0 l) = q l) (j : Fin 128) :
    k0_pay10 (F := Ideal) v0 v1 w v22 (ix2 r j) = Rows.rms Rows.d128 (fun l => Rows.proj x g (f l)) q j := by
  pointwise [k0_pay10]
  exact pay9_row hx hg hw hq j

/-- The normalized latent columns as stored transposed. -/
theorem pay2_row {w : FVec Ideal S1024x384 .bf16} {f : Fin 128 → Fin 1024 → EReal} {v22 : FVec Ideal S1x128 .f32} {q : Fin 128 → EReal}
    (hw : ∀ k (l : Fin 128), w (ix2 k (⟨l.val, by have := l.isLt; omega⟩ : Fin 384)) = f l k) (hq : ∀ l, v22 (ix2 0 l) = q l) (z : Fin 1) (j : Fin 128) :
    k0_pay2 (F := Ideal) (k0_pay9 v0 v1 w v22) (ix3 z j r) = Rows.rms Rows.d128 (fun l => Rows.proj x g (f l)) q j := by
  pointwise [k0_pay2]
  exact pay9_row hx hg hw hq j

end Cert.InprojIdeal.Pure

namespace Cert.InprojRefIdeal.Pure

open Cert.InprojRefIdeal Cert.InprojRefIdeal.Read Idealize.ShloMosaic Idealize.ShloMosaic.TcCoe Idealize.SL.Sem

variable (x0 : FVec Ideal S32768x1024 .f32) (x1 : FVec Ideal S1024 .f32) (x2 : FVec Ideal S1024x3712 .bf16) (x3 : FVec Ideal S128 .f32)

/-- The reference's normalization at row `r`, channel `j`. -/
theorem v12_apply (r : Fin 32768) (j : Fin 1024) :
    val_main_v12 (F := Ideal) x0 x1 (ix2 r j) = Rows.rms Rows.d1024 (fun k => x0 (ix2 r k)) (fun k => x1 (ix1 k)) j := by
  pointwise [val_main_v12, val_main_v11, val_main_v10, val_main_v9, val_main_v8, val_main_v7, val_main_v6, val_main_v5,
    val_main_cst_1, val_main_v4, val_main_v3, val_main_cst_0, val_main_v2, val_main_v1, val_main_cst, val_main_v0]
  rfl

/-- The reference's projection at row `r`, column `j`. -/
theorem v14_apply (r : Fin 32768) (j : Fin 3712) :
    val_main_v14 (F := Ideal) x0 x1 x2 (ix2 r j)
      = Rows.proj (fun k => x0 (ix2 r k)) (fun k => x1 (ix1 k)) (fun k => x2 (ix2 k j)) := by
  pointwise [val_main_v14, val_main_v13, v12_apply]
  rfl

/-- The reference's normalized latent columns. -/
theorem v33_apply (r : Fin 32768) (j : Fin 128) :
    val_main_v33 (F := Ideal) x0 x1 x2 x3 (ix2 r j)
      = Rows.rms Rows.d128 (fun l => Rows.proj (fun k => x0 (ix2 r k)) (fun k => x1 (ix1 k)) (fun k => x2 (ix2 k (Rows.col 640 (by decide) l))))
          (fun l => x3 (ix1 l)) j := by
  pointwise [val_main_v33, val_main_v32, val_main_v31, val_main_v30, val_main_v29, val_main_v28, val_main_v27, val_main_v26,
    val_main_cst_4, val_main_v25, val_main_v24, val_main_cst_3, val_main_v23, val_main_v22, val_main_cst_2, val_main_v21,
    val_main_v16, v14_apply]
  rfl

end Cert.InprojRefIdeal.Pure

end
-- ==== Proof.InprojFinal.lean ====
module

public import proofs.«01_k».proof.Proof.InprojPure
public import proofs.«01_k».proof.Proof.Gen.InprojIdeal.Value
public import Idealize.ShloMosaic.Lib.Pipeline.ValueKit
public import Idealize.ShloMosaic.Lib.Claim
public import Idealize.ShloMosaic.Lib.StableHlo.ReadAt

@[expose] public section

set_option maxRecDepth 16384

noncomputable section

namespace Cert.InprojIdeal.Final

open Cert.InprojIdeal Cert.InprojIdeal.Gen Cert.InprojIdeal.Pure Idealize.ShloMosaic Idealize.ShloMosaic.TcCoe Idealize.SL.Sem
open Idealize.ShloMosaic.Pipeline (Dat)

variable (m : (ℓ : Loc nD τ sig) → Buf (Elt Ideal) ℓ)

/-- Every window's block index at every grid point. -/
theorem idx : ∀ t : Fin cfg0.N, win0_0.index t = ![t.val, 0]
    ∧ win0_1.index t = ![0, 0]
    ∧ win0_2.index t = ![0, 0]
    ∧ win0_3.index t = ![0, 0]
    ∧ win0_4.index t = ![t.val, 0]
    ∧ win0_5.index t = ![t.val, 0]
    ∧ win0_6.index t = ![t.val, 0, 0]
    ∧ win0_7.index t = ![t.val, 0]
    ∧ win0_8.index t = ![t.val, 0]
    ∧ win0_9.index t = ![t.val, 0] :=
  (by decide +kernel : ∀ t : Fin grid0.N, _)

/-- Window 0's block at point `t` is rows `512 t` to `512 t + 511` of the input rows. -/
theorem blk0 (c : Dev nD) (t : Fin cfg0.N) (r : Fin 512) (i : Fin 32768) (hi : i.val = 512 * t.val + r.val) (k : Fin 1024) :
    (iblk m c 0 t : FVec Ideal S512x1024 .f32) (ix2 r k) = (m ((c : Thread nD τ).loc main_arg0) : FVec Ideal S32768x1024 .f32) (ix2 i k) := by
  blk_ext [iblk, V, idx t]

/-- Window 1's block is the gain. -/
theorem blk1 (c : Dev nD) (t : Fin cfg0.N) (k : Fin 1024) :
    (iblk m c 1 t : FVec Ideal S1x1024 .f32) (ix2 0 k) = (m ((c : Thread nD τ).loc main_arg1) : FVec Ideal S1024 .f32) (ix1 k) := by
  have h : (iblk m c 1 t : FVec Ideal S1x1024 .f32) (ix2 0 k) = (V m c main_v0 : FVec Ideal S1x1024 .f32) (ix2 0 k) := by
    blk_ext [iblk, idx t]
  rw [h]
  unfold V
  after_reads_at

/-- Window 2's block is the whole projection matrix. -/
theorem blk2 (c : Dev nD) (t : Fin cfg0.N) (k : Fin 1024) (l : Fin 3712) :
    (iblk m c 2 t : FVec Ideal S1024x3712 .bf16) (ix2 k l) = (m ((c : Thread nD τ).loc main_arg2) : FVec Ideal S1024x3712 .bf16) (ix2 k l) := by
  blk_ext [iblk, V, idx t]

/-- Window 3's block is the latent gain. -/
theorem blk3 (c : Dev nD) (t : Fin cfg0.N) (k : Fin 128) :
    (iblk m c 3 t : FVec Ideal S1x128 .f32) (ix2 0 k) = (m ((c : Thread nD τ).loc main_arg3) : FVec Ideal S128 .f32) (ix1 k) := by
  have h : (iblk m c 3 t : FVec Ideal S1x128 .f32) (ix2 0 k) = (V m c main_v1 : FVec Ideal S1x128 .f32) (ix2 0 k) := by
    blk_ext [iblk, idx t]
  rw [h]
  unfold V
  after_reads_at

/-- The normalized row `i` times column `j` of the projection. -/
def P (x0 : FVec Ideal S32768x1024 .f32) (x1 : FVec Ideal S1024 .f32) (x2 : FVec Ideal S1024x3712 .bf16) (i : Fin 32768) (j : Fin 3712) : EReal :=
  Rows.proj (fun k => x0 (ix2 i k)) (fun k => x1 (ix1 k)) (fun k => x2 (ix2 k j))

/-- The normalized latent columns of row `i`. -/
def C (x0 : FVec Ideal S32768x1024 .f32) (x1 : FVec Ideal S1024 .f32) (x2 : FVec Ideal S1024x3712 .bf16) (x3 : FVec Ideal S128 .f32)
    (i : Fin 32768) (j : Fin 128) : EReal :=
  Rows.rms Rows.d128 (fun l => P x0 x1 x2 i (Rows.col 640 (by decide) l)) (fun l => x3 (ix1 l)) j

/-- The columns of the attention queries, as one array. -/
def G4 (x0 : FVec Ideal S32768x1024 .f32) (x1 : FVec Ideal S1024 .f32) (x2 : FVec Ideal S1024x3712 .bf16) : FVec Ideal S32768x640 .f32 := fun y =>
  P x0 x1 x2 (y 0) (Rows.col 0 (by decide) (y 1))

/-- Output window 4 ends with the columns of the attention queries. -/
theorem final4 (c : Dev nD) : (dats m 0 c).arrAt 4 (cfgs 0).N
    = G4 (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  unfold outsAt0
  frame_out
  idx_vars y
  have ht : t.val < 64 := lt_of_lt_of_eq t.isLt N_0
  obtain ⟨i, hi⟩ : ∃ i : Fin 32768, i.val = 512 * t.val + y0.val := ⟨⟨512 * t.val + y0.val, by have := y0.isLt; omega⟩, rfl⟩
  have he : ((View.whole main_v2_0).slice (win0_4.rect t)).emb (ix2 y0 y1) = ix2 i y1 := by
    blk_ext [idx t]
  rw [he]
  unfold G4 P
  simp only [ix2_0, ix2_1]
  apply pay7_row
  · exact blk0 m c t y0 i hi
  · exact blk1 m c t
  · intro k; pointwise; rw [blk2]; simp only [Rows.col, Nat.zero_add]

/-- The columns of the second branch, as one array. -/
def G7 (x0 : FVec Ideal S32768x1024 .f32) (x1 : FVec Ideal S1024 .f32) (x2 : FVec Ideal S1024x3712 .bf16) : FVec Ideal S32768x1152 .f32 := fun y =>
  P x0 x1 x2 (y 0) (Rows.col 1024 (by decide) (y 1))

/-- Output window 7 ends with the columns of the second branch. -/
theorem final7 (c : Dev nD) : (dats m 0 c).arrAt 7 (cfgs 0).N
    = G7 (m ((c : Thread nD τ).loc main_arg0)) (m ((c : Thread nD τ).loc main_arg1)) (m ((c : Thread nD τ).loc main_arg2)) := by
  refine (dats m 0 c).arrAt_eq_of_covers 7 _ (by decide +kernel) fun t hf y => ?_
  blk_simp
  rw [after0_7]
  unfold outsAt0
  frame_out
  idx_vars y
  have ht : t.val < 64 := lt_of_lt_of_eq t.isLt N_0
  obtain ⟨i, hi⟩ : ∃ i : Fin 32768, i.val = 512 * t.val + y0.val := ⟨⟨512 * t.val + y0.val, by have := y0.isLt; omega⟩, rfl⟩
  have he : ((View.whole main_v2_3).slice (win0_7.rect t)).emb (ix2 y0 y1) = ix2 i y1 := by
    blk_ext [idx t]
  rw [he]
  unfold G7 P
  simp only [ix2_0, ix2_1]
  apply pay3_row
  · exact blk0 m c t y0 i hi
  · exact blk1 m c t
  · intro k; pointwise; rw [blk2]; simp only [Rows.col, Nat.zero_add]

/-- The columns of the third branch, as one array. -/
def G8 (x0 : FVec Ideal S32768x1024 .f32) (x1 : FVec Ideal S1024 .f32) (x2 : FVec Ideal S1024x3712 .bf16) : FVec Ideal S32768x512 .f32 := fun y =>
  P x0 x1 x2 (y 0) (Rows.col 2176 (by decide) (y 1))

/-- Output window 8 ends with the columns of the third branch. -/
theorem final8 (c : Dev nD) : (dats m 0 c).arrAt 8 (cfgs 0).N
    = G8 (m ((c : Thread nD τ).loc main_arg0)) (m ((c : Thread nD τ).loc main_arg1)) (m ((c : Thread nD τ).loc main_arg2)) := by
  refine (dats m 0 c).arrAt_eq_of_covers 8 _ (by decide +kernel) fun t hf y => ?_
  blk_simp
  rw [after0_8]
  unfold outsAt0
  frame_out
  idx_vars y
  have ht : t.val < 64 := lt_of_lt_of_eq t.isLt N_0
  obtain ⟨i, hi⟩ : ∃ i : Fin 32768, i.val = 512 * t.val + y0.val := ⟨⟨512 * t.val + y0.val, by have := y0.isLt; omega⟩, rfl⟩
  have he : ((View.whole main_v2_4).slice (win0_8.rect t)).emb (ix2 y0 y1) = ix2 i y1 := by
    blk_ext [idx t]
  rw [he]
  unfold G8 P
  simp only [ix2_0, ix2_1]
  apply pay4_row
  · exact blk0 m c t y0 i hi
  · exact blk1 m c t
  · intro k; pointwise; rw [blk2]; simp only [Rows.col, Nat.zero_add]

/-- The columns of the fourth branch, as one array. -/
def G9 (x0 : FVec Ideal S32768x1024 .f32) (x1 : FVec Ideal S1024 .f32) (x2 : FVec Ideal S1024x3712 .bf16) : FVec Ideal S32768x1024 .f32 := fun y =>
  P x0 x1 x2 (y 0) (Rows.col 2688 (by decide) (y 1))

/-- Output window 9 ends with the columns of the fourth branch. -/
theorem final9 (c : Dev nD) : (dats m 0 c).arrAt 9 (cfgs 0).N
    = G9 (m ((c : Thread nD τ).loc main_arg0)) (m ((c : Thread nD τ).loc main_arg1)) (m ((c : Thread nD τ).loc main_arg2)) := by
  refine (dats m 0 c).arrAt_eq_of_covers 9 _ (by decide +kernel) fun t hf y => ?_
  blk_simp
  rw [after0_9]
  unfold outsAt0
  frame_out
  idx_vars y
  have ht : t.val < 64 := lt_of_lt_of_eq t.isLt N_0
  obtain ⟨i, hi⟩ : ∃ i : Fin 32768, i.val = 512 * t.val + y0.val := ⟨⟨512 * t.val + y0.val, by have := y0.isLt; omega⟩, rfl⟩
  have he : ((View.whole main_v2_5).slice (win0_9.rect t)).emb (ix2 y0 y1) = ix2 i y1 := by
    blk_ext [idx t]
  rw [he]
  unfold G9 P
  simp only [ix2_0, ix2_1]
  apply pay5_row
  · exact blk0 m c t y0 i hi
  · exact blk1 m c t
  · intro k; pointwise; rw [blk2]; simp only [Rows.col, Nat.zero_add]

/-- The keys' array: the normalized latent columns, then the indexer keys' columns. -/
def G5 (x0 : FVec Ideal S32768x1024 .f32) (x1 : FVec Ideal S1024 .f32) (x2 : FVec Ideal S1024x3712 .bf16) (x3 : FVec Ideal S128 .f32) :
    FVec Ideal S32768x384 .bf16 := fun y =>
  if h : (y 1).val < 128 then C x0 x1 x2 x3 (y 0) ⟨(y 1).val, h⟩
    else P x0 x1 x2 (y 0) ⟨640 + (y 1).val, by have : (y 1).val < 384 := (y 1).isLt; omega⟩

/-- Output window 5 ends with the keys' array. -/
theorem final5 (c : Dev nD) : (dats m 0 c).arrAt 5 (cfgs 0).N
    = G5 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  unfold outsAt0
  frame_out
  idx_vars y
  have ht : t.val < 64 := lt_of_lt_of_eq t.isLt N_0
  obtain ⟨i, hi⟩ : ∃ i : Fin 32768, i.val = 512 * t.val + y0.val := ⟨⟨512 * t.val + y0.val, by have := y0.isLt; omega⟩, rfl⟩
  have he : ((View.whole main_v2_1).slice (win0_5.rect t)).emb (ix2 y0 y1) = ix2 i y1 := by
    blk_ext [idx t]
  rw [he]
  clear he
  unfold G5 C P
  simp only [ix2_0, ix2_1]
  canon_tiles x h using (View.cover_of_tiledBy _ ![512, 128] (by sl_kernel_rfl) (ix2 y0 y1))
  · idx_vars x
    have g0 : y0.val = x0.val := h0
    have g1 : y1.val = 128 + x1.val := h1
    refine Eq.trans ?_ (dif_neg (by omega)).symm
    obtain rfl : y0 = x0 := Fin.ext g0
    apply pay1_row
    · exact blk0 m c t y0 i hi
    · exact blk1 m c t
    · intro k
      pointwise
      rw [blk2]
      simp only [g1, ← Nat.add_assoc]
  · idx_vars x
    have g0 : y0.val = x0.val := h0
    have g1 : y1.val = x1.val := h1
    have := x1.isLt
    refine Eq.trans ?_ (dif_pos (by omega)).symm
    obtain rfl : y0 = x0 := Fin.ext g0
    have hj : (⟨y1.val, by omega⟩ : Fin 128) = x1 := Fin.ext g1
    rw [hj]
    apply pay10_row
    · exact blk0 m c t y0 i hi
    · exact blk1 m c t
    · intro k l
      pointwise
      rw [blk2]
      simp only [Rows.col]
    · exact blk3 m c t

/-- The transposed latent columns, one block of 512 rows after the other. -/
def G6 (x0 : FVec Ideal S32768x1024 .f32) (x1 : FVec Ideal S1024 .f32) (x2 : FVec Ideal S1024x3712 .bf16) (x3 : FVec Ideal S128 .f32) :
    FVec Ideal S64x128x512 .bf16 := fun y =>
  C x0 x1 x2 x3 ⟨512 * (y 0).val + (y 2).val, by have h0 : (y 0).val < 64 := (y 0).isLt; have h2 : (y 2).val < 512 := (y 2).isLt; omega⟩ (y 1)

/-- Output window 6 ends with the transposed latent columns. -/
theorem final6 (c : Dev nD) : (dats m 0 c).arrAt 6 (cfgs 0).N
    = G6 (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp
  rw [after0_6]
  unfold outsAt0
  frame_out
  idx_vars y
  have ht : t.val < 64 := lt_of_lt_of_eq t.isLt N_0
  have he : ((View.whole main_v2_2).slice (win0_6.rect t)).emb (ix3 y0 y1 y2) = ix3 (⟨t.val, ht⟩ : Fin 64) y1 y2 := by
    blk_ext [idx t]
  rw [he]
  unfold G6 C P
  simp only [ix3_0, ix3_1, ix3_2]
  apply pay2_row
  · exact blk0 m c t y2 _ rfl
  · exact blk1 m c t
  · intro k l; pointwise; rw [blk2]; simp only [Rows.col]
  · exact blk3 m c t

end Cert.InprojIdeal.Final

end
-- ==== Proof.InprojClaim.lean ====
module

public import proofs.«01_k».proof.Defs
public import proofs.«01_k».proof.Proof.InprojFinal
public import proofs.«01_k».proof.Proof.Gen.InprojRefIdeal.Run
public import proofs.«01_k».proof.Proof.Gen.InprojRefIdeal.Read
public import proofs.«01_k».proof.Proof.Gen.InprojIdeal.Frame
public import Idealize.ShloMosaic.Lib.Claim
public import Idealize.ShloMosaic.Lib.Quiescent

@[expose] public section

set_option maxRecDepth 16384

noncomputable section

namespace Cert.InprojClaim

open Idealize.ShloMosaic Idealize.SL.Sem
open Cert.InprojRefIdeal.Read Cert.InprojRefIdeal.Pure Cert.InprojIdeal.Final

variable (x0 : FVec Ideal Cert.InprojIdeal.S32768x1024 .f32) (x1 : FVec Ideal Cert.InprojIdeal.S1024 .f32)
  (x2 : FVec Ideal Cert.InprojIdeal.S1024x3712 .bf16) (x3 : FVec Ideal Cert.InprojIdeal.S128 .f32)

/-- The reference's result for the kernel's output window 4 is the array that window was shown to hold. -/
theorem ref_v15 : val_main_v15 (F := Ideal) x0 x1 x2 = G4 x0 x1 x2 := by
  funext y
  idx_vars y
  pointwise [val_main_v15, v14_apply, G4, P]
  simp only [Rows.col, Nat.zero_add]

/-- The reference's result for the kernel's output window 5 is the array that window was shown to hold. -/
theorem ref_v35 : val_main_v35 (F := Ideal) x0 x1 x2 x3 = G5 x0 x1 x2 x3 := by
  funext y
  idx_vars y
  pointwise [val_main_v35, val_main_v34, v33_apply, val_main_v17, v14_apply, G5, C, P]
  by_cases h : y1.val < 128
  · refine Eq.trans ?_ (dif_pos h).symm
    refine (dif_pos h).trans ?_
    rfl
  · refine Eq.trans ?_ (dif_neg h).symm
    refine (dif_neg h).trans ?_
    have e : 768 + (y1.val - 128) = 640 + y1.val := by omega
    simp only [e]

/-- The reference's result for the kernel's output window 6 is the array that window was shown to hold. -/
theorem ref_v38 : val_main_v38 (F := Ideal) x0 x1 x2 x3 = G6 x0 x1 x2 x3 := by
  funext y
  idx_vars y
  pointwise [val_main_v38, val_main_v37, val_main_v36, v33_apply, G6, C, P]
  simp only [Nat.mul_comm]

/-- The reference's result for the kernel's output window 7 is the array that window was shown to hold. -/
theorem ref_v18 : val_main_v18 (F := Ideal) x0 x1 x2 = G7 x0 x1 x2 := by
  funext y
  idx_vars y
  pointwise [val_main_v18, v14_apply, G7, P]
  simp only [Rows.col, Nat.zero_add]

/-- The reference's result for the kernel's output window 8 is the array that window was shown to hold. -/
theorem ref_v19 : val_main_v19 (F := Ideal) x0 x1 x2 = G8 x0 x1 x2 := by
  funext y
  idx_vars y
  pointwise [val_main_v19, v14_apply, G8, P]
  simp only [Rows.col, Nat.zero_add]

/-- The reference's result for the kernel's output window 9 is the array that window was shown to hold. -/
theorem ref_v20 : val_main_v20 (F := Ideal) x0 x1 x2 = G9 x0 x1 x2 := by
  funext y
  idx_vars y
  pointwise [val_main_v20, v14_apply, G9, P]
  simp only [Rows.col, Nat.zero_add]

/-- The reference's results, as the run leaves them, are those arrays of its own arguments. -/
theorem ref_results (m : (ℓ : Loc Cert.InprojRefIdeal.nD Cert.InprojRefIdeal.τ Cert.InprojRefIdeal.sig) → Buf (Elt Ideal) ℓ)
    (ρ : Dev Cert.InprojRefIdeal.nD → PrngReg) :
    θ_run (Cert.InprojRefIdeal.defs (F := Ideal)) (onTc (τ := Cert.InprojRefIdeal.τ) (Cert.InprojRefIdeal.main (F := Ideal))) ⟨m, fun _ => 0, ρ⟩ fun r => ∀ c : Dev Cert.InprojRefIdeal.nD,
      r.2.mem ((c.tc : Thread Cert.InprojRefIdeal.nD Cert.InprojRefIdeal.τ).loc Cert.InprojRefIdeal.main_v15)
          = G4 (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2))
      ∧ r.2.mem ((c.tc : Thread Cert.InprojRefIdeal.nD Cert.InprojRefIdeal.τ).loc Cert.InprojRefIdeal.main_v35)
          = G5 (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2)) (m ((c.tc : Thread Cert.InprojRefIdeal.nD Cert.InprojRefIdeal.τ).loc Cert.InprojRefIdeal.main_arg3))
      ∧ r.2.mem ((c.tc : Thread Cert.InprojRefIdeal.nD Cert.InprojRefIdeal.τ).loc Cert.InprojRefIdeal.main_v38)
          = G6 (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2)) (m ((c.tc : Thread Cert.InprojRefIdeal.nD Cert.InprojRefIdeal.τ).loc Cert.InprojRefIdeal.main_arg3))
      ∧ r.2.mem ((c.tc : Thread Cert.InprojRefIdeal.nD Cert.InprojRefIdeal.τ).loc Cert.InprojRefIdeal.main_v18)
          = G7 (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2))
      ∧ r.2.mem ((c.tc : Thread Cert.InprojRefIdeal.nD Cert.InprojRefIdeal.τ).loc Cert.InprojRefIdeal.main_v19)
          = G8 (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2))
      ∧ r.2.mem ((c.tc : Thread Cert.InprojRefIdeal.nD Cert.InprojRefIdeal.τ).loc Cert.InprojRefIdeal.main_v20)
          = G9 (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2))
      ∧ r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3) :=
  (θ_run Cert.InprojRefIdeal.defs _ _).mono (fun _ h c =>
      ⟨(h c).1.trans ((val_main_v15_eq (F := Ideal) ..).trans (ref_v15 ..)),
        (h c).2.1.trans ((val_main_v35_eq (F := Ideal) m c).trans (ref_v35 ..)),
        (h c).2.2.1.trans ((val_main_v38_eq (F := Ideal) ..).trans (ref_v38 ..)),
        (h c).2.2.2.1.trans ((val_main_v18_eq (F := Ideal) ..).trans (ref_v18 ..)),
        (h c).2.2.2.2.1.trans ((val_main_v19_eq (F := Ideal) ..).trans (ref_v19 ..)),
        (h c).2.2.2.2.2.1.trans ((val_main_v20_eq (F := Ideal) ..).trans (ref_v20 ..)), (h c).2.2.2.2.2.2⟩)
    (Cert.InprojRefIdeal.Value.run (F := Ideal) m ρ)

/-- The kernel and the reference, read over the extended reals, end with equal results. -/
theorem algebraic : Cert.algebraic_InprojIdeal_InprojRefIdeal (hInprojIdeal := Cert.InprojIdeal.Gen.facts)
    (hInprojRefIdeal := Cert.InprojRefIdeal.Gen.facts) := by
  intro m ρ m' ρ' _ hag
  refine ⟨_, _, _, _, _, _, (θ_run Cert.InprojIdeal.defs _ _).mono (fun r h c => ⟨(h c).1.trans (final4 m c), (h c).2.1.trans (final5 m c),
      (h c).2.2.1.trans (final6 m c), (h c).2.2.2.1.trans (final7 m c), (h c).2.2.2.2.1.trans (final8 m c),
      (h c).2.2.2.2.2.1.trans (final9 m c), (h c).2.2.2.2.2.2⟩)
    (Cert.InprojIdeal.Value.run_blocks (F := Ideal) m ρ),
    (θ_run Cert.InprojRefIdeal.defs _ _).mono (fun r h c => ⟨(h c).1.trans ?_, (h c).2.1.trans ?_, (h c).2.2.1.trans ?_, (h c).2.2.2.1.trans ?_,
      (h c).2.2.2.2.1.trans ?_, (h c).2.2.2.2.2.1.trans ?_, (h c).2.2.2.2.2.2⟩) (ref_results m' ρ')⟩
  all_goals
    obtain ⟨h0, h1, h2, h3⟩ := hag c
    first
    | rw [h0, h1, h2, h3]
    | rw [h0, h1, h2]

/-- The reference runs and leaves its arguments unchanged. -/
theorem ref_frame : Cert.quiescent_InprojRefIdeal (hInprojRefIdeal := Cert.InprojRefIdeal.Gen.facts) := fun m ρ _ =>
  (θ_run Cert.InprojRefIdeal.defs _ _).mono (fun r h => ⟨fun c => (h c).2.2.2.2.2.2, sem_eq_zero_of_no_sems (by decide) r.2⟩)
    (Cert.InprojRefIdeal.Value.run (F := Ideal) m ρ)

end Cert.InprojClaim

end
-- ==== Proof.lean ====
module

public import proofs.«01_k».proof.Defs
public import proofs.«01_k».proof.Proof.Gen.Lru
public import proofs.«01_k».proof.Proof.Gen.Lru.Frame
public import proofs.«01_k».proof.Proof.Gen.LruIdeal
public import proofs.«01_k».proof.Proof.Gen.LruIdeal.Frame
public import proofs.«01_k».proof.Proof.Gen.LruRefIdeal
public import proofs.«01_k».proof.Proof.Gen.Merge
public import proofs.«01_k».proof.Proof.Gen.Merge.Frame
public import proofs.«01_k».proof.Proof.Gen.MergeIdeal
public import proofs.«01_k».proof.Proof.Gen.MergeIdeal.Frame
public import proofs.«01_k».proof.Proof.Gen.MergeRefIdeal
public import proofs.«01_k».proof.Proof.Gen.Inproj
public import proofs.«01_k».proof.Proof.Gen.Inproj.Frame
public import proofs.«01_k».proof.Proof.Gen.InprojIdeal
public import proofs.«01_k».proof.Proof.Gen.InprojIdeal.Frame
public import proofs.«01_k».proof.Proof.Gen.InprojRefIdeal
public import proofs.«01_k».proof.Proof.Gen.LruIdeal.Value
public import proofs.«01_k».proof.Proof.Gen.LruRefIdeal.Run
public import proofs.«01_k».proof.Proof.Gen.MergeIdeal.Value
public import proofs.«01_k».proof.Proof.Gen.MergeRefIdeal.Run
public import proofs.«01_k».proof.Proof.Gen.MergeRefIdeal.Read
public import proofs.«01_k».proof.Proof.Gen.InprojIdeal.Value
public import proofs.«01_k».proof.Proof.Gen.InprojRefIdeal.Run
public import proofs.«01_k».proof.Proof.Gen.InprojRefIdeal.Read
public import proofs.«01_k».proof.Proof.Gen.Inner
public import proofs.«01_k».proof.Proof.Gen.Inner.Frame
public import proofs.«01_k».proof.Proof.Gen.InnerIdeal
public import proofs.«01_k».proof.Proof.Gen.InnerIdeal.Frame
public import proofs.«01_k».proof.Proof.Gen.InnerRefIdeal
public import proofs.«01_k».proof.Proof.Gen.InnerIdeal.Value
public import proofs.«01_k».proof.Proof.Gen.InnerRefIdeal.Run
public import proofs.«01_k».proof.Proof.Gen.InnerRefIdeal.Read
public import proofs.«01_k».proof.Proof.InnerClaim
public import proofs.«01_k».proof.Proof.LruClaim
public import proofs.«01_k».proof.Proof.MergeClaim
public import proofs.«01_k».proof.Proof.InprojClaim
public import Idealize.ShloMosaic.Adequacy
public import Idealize.ShloMosaic.Lib.Quiescent
public import Idealize.ShloMosaic.Init

@[expose] public section

noncomputable section

namespace Cert.Proof

open Idealize.ShloMosaic Idealize.SL.Sem

/-- Every claim of the certificate. -/
theorem claim : Cert.Claim :=
  ⟨Cert.Lru.Gen.facts, Cert.LruIdeal.Gen.facts, Cert.LruRefIdeal.Gen.facts,
    Cert.Merge.Gen.facts, Cert.MergeIdeal.Gen.facts, Cert.MergeRefIdeal.Gen.facts,
    Cert.Inproj.Gen.facts, Cert.InprojIdeal.Gen.facts, Cert.InprojRefIdeal.Gen.facts,
    Cert.Inner.Gen.facts, Cert.InnerIdeal.Gen.facts, Cert.InnerRefIdeal.Gen.facts,
    fun m ρ _ => Cert.Lru.Gen.frame m ρ, fun m ρ _ => Cert.LruIdeal.Gen.frame m ρ, Cert.LruClaim.ref_frame,
    fun m ρ _ => Cert.Merge.Gen.frame m ρ, fun m ρ _ => Cert.MergeIdeal.Gen.frame m ρ, Cert.MergeClaim.ref_frame,
    fun m ρ _ => Cert.Inproj.Gen.frame m ρ, fun m ρ _ => Cert.InprojIdeal.Gen.frame m ρ, Cert.InprojClaim.ref_frame,
    fun m ρ _ => Cert.Inner.Gen.frame m ρ, fun m ρ _ => Cert.InnerIdeal.Gen.frame m ρ, Cert.InnerClaim.ref_frame,
    trivial, Cert.LruClaim.algebraic,
    trivial, Cert.MergeClaim.algebraic,
    trivial, Cert.InprojClaim.algebraic,
    trivial, Cert.InnerClaim.algebraic⟩

end Cert.Proof

end
